-- ==== Defs.lean ====
def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelIdeal : Cert.KernelIdeal.Facts) (hReferenceIdeal : Cert.ReferenceIdeal.Facts) (hPre_gate_finite : Cert.Pre_gate_finite.Facts),
    quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ algebraic_KernelIdeal_ReferenceIdeal_pre_gate_finite (hKernelIdeal := hKernelIdeal) (hReferenceIdeal := hReferenceIdeal) (hPre_gate_finite := hPre_gate_finite)
-- ==== Pre_gate_finite.lean ====
abbrev S16x192x28x28 : Shape := ⟨4, ![16, 192, 28, 28]⟩
abbrev S1 : Shape := ⟨1, ![1]⟩
abbrev S192x8 : Shape := ⟨2, ![192, 8]⟩
abbrev S8 : Shape := ⟨1, ![8]⟩
abbrev S8x192x192 : Shape := ⟨3, ![8, 192, 192]⟩
abbrev S8x192 : Shape := ⟨2, ![8, 192]⟩
abbrev S_ : Shape := ⟨0, ![]⟩
abbrev S16x192 : Shape := ⟨2, ![16, 192]⟩
abbrev S16x8 : Shape := ⟨2, ![16, 8]⟩
abbrev S1x8 : Shape := ⟨2, ![1, 8]⟩
abbrev S16 : Shape := ⟨1, ![16]⟩

class Facts : Prop where
  reducesTo_S16x192x28x28_S16x192_d2_3 : S16x192x28x28.ReducesTo [2, 3] S16x192
  h_S_ : 0 < S_.numel
  bcast_S_S16x192 : S_.BroadcastsInDim S16x192 (![] : Fin 0 → Fin S16x192.rank)
  bcast_S8_S1x8_1 : S8.BroadcastsInDim S1x8 (![1] : Fin 1 → Fin S1x8.rank)
  bcast_S1x8_S16x8_0_1 : S1x8.BroadcastsInDim S16x8 (![0, 1] : Fin 2 → Fin S16x8.rank)
  reducesTo_S16x8_S16_d1 : S16x8.ReducesTo [1] S16
  bcast_S_S16 : S_.BroadcastsInDim S16 (![] : Fin 0 → Fin S16.rank)
  dot_S16x192_S192x8_S16x8_1_0_0_1_n_n_wf : DotDims.WF S16x192 S192x8 S16x8 [1] [0] [0] [1] [] []

variable [Facts]

def dot_S16x192_S192x8_S16x8_1_0_0_1_n_n : DotDims S16x192 S192x8 S16x8 where
  lhsContracting := [1]
  rhsContracting := [0]
  lhsNonContracting := [0]
  rhsNonContracting := [1]
  lhsBatch := []
  rhsBatch := []
  wf := dot_S16x192_S192x8_S16x8_1_0_0_1_n_n_wf
def fn {F : FTy → Type} [FloatOps F] (main_arg0 : FVec F S16x192x28x28 .f32) (main_arg1 : FVec F S1 .f32) (main_arg2 : FVec F S192x8 .f32) (main_arg3 : FVec F S8 .f32) (main_arg4 : FVec F S8x192x192 .f32) (main_arg5 : FVec F S8x192 .f32) : IVec S16 1 :=
  let main_cst : FVec F S_ .f32 := constant S_ .f32 0x00000000#32
  let main_v0 : FVec F S16x192 .f32 := (fun x v => Host.reduceAdd x v reducesTo_S16x192x28x28_S16x192_d2_3 h_S_) main_arg0 main_cst
  let main_cst_0 : FVec F S_ .f32 := constant S_ .f32 0x44440000#32
  let main_v1 : FVec F S16x192 .f32 := broadcastInDim S16x192 ![] bcast_S_S16x192 main_cst_0
  let main_v2 : FVec F S16x192 .f32 := Host.divf main_v0 main_v1
  let main_v3 : FVec F S16x8 .f32 := (fun l r => Host.dotGeneral dot_S16x192_S192x8_S16x8_1_0_0_1_n_n none l r) main_v2 main_arg2
  let main_v4 : FVec F S1x8 .f32 := broadcastInDim S1x8 ![1] bcast_S8_S1x8_1 main_arg3
  let main_v5 : FVec F S16x8 .f32 := broadcastInDim S16x8 ![0, 1] bcast_S1x8_S16x8_0_1 main_v4
  let main_v6 : FVec F S16x8 .f32 := addf main_v3 main_v5
  let main_cst_1 : FVec F S_ .f32 := constant S_ .f32 0xFF800000#32
  let main_v7 : FVec F S16 .f32 := (fun x v => Host.reduce FloatOps.maximumf x v reducesTo_S16x8_S16_d1 h_S_) main_v6 main_cst_1
  let main_cst_2 : FVec F S_ .f32 := constant S_ .f32 0xFF800000#32
  let main_v8 : FVec F S16 .f32 := broadcastInDim S16 ![] bcast_S_S16 main_cst_2
  let main_v9 : IVec S16 1 := cmpf .ogt main_v7 main_v8
  let main_cst_3 : FVec F S_ .f32 := constant S_ .f32 0x7F800000#32
  let main_v10 : FVec F S16 .f32 := broadcastInDim S16 ![] bcast_S_S16 main_cst_3
  let main_v11 : IVec S16 1 := cmpf .olt main_v7 main_v10
  let main_v12 : IVec S16 1 := andi main_v9 main_v11
  main_v12
-- ==== KernelIdeal.lean ====
abbrev S16x192x28x28 : Shape := ⟨4, ![16, 192, 28, 28]⟩
abbrev S1 : Shape := ⟨1, ![1]⟩
abbrev S192x8 : Shape := ⟨2, ![192, 8]⟩
abbrev S8 : Shape := ⟨1, ![8]⟩
abbrev S8x192x192 : Shape := ⟨3, ![8, 192, 192]⟩
abbrev S8x192 : Shape := ⟨2, ![8, 192]⟩
abbrev S16x192x784 : Shape := ⟨3, ![16, 192, 784]⟩
abbrev S8x1 : Shape := ⟨2, ![8, 1]⟩
abbrev S8x1x192 : Shape := ⟨3, ![8, 1, 192]⟩
abbrev S4x192x784 : Shape := ⟨3, ![4, 192, 784]⟩
abbrev S384x192 : Shape := ⟨2, ![384, 192]⟩
abbrev S1x192x784 : Shape := ⟨3, ![1, 192, 784]⟩
abbrev S192x784 : Shape := ⟨2, ![192, 784]⟩
abbrev S192 : Shape := ⟨1, ![192]⟩
abbrev S192x1 : Shape := ⟨2, ![192, 1]⟩
abbrev S1x1 : Shape := ⟨2, ![1, 1]⟩
abbrev S1x1x1 : Shape := ⟨3, ![1, 1, 1]⟩
abbrev S1x192x192 : Shape := ⟨3, ![1, 192, 192]⟩
abbrev S192x192 : Shape := ⟨2, ![192, 192]⟩
abbrev S384x784 : Shape := ⟨2, ![384, 784]⟩
abbrev S1x1x192 : Shape := ⟨3, ![1, 1, 192]⟩
abbrev S1x192 : Shape := ⟨2, ![1, 192]⟩

abbrev nBuf : Space → Nat
  | .hbm => 12
  | .vmem => 12
  | .smem => 1
  | _ => 0

abbrev bufTy : (tb : Table) → Fin (tcTables nBuf tb) → BufTy
  | .hbm, ⟨0, _⟩ => ⟨S16x192x28x28, .f32⟩
  | .hbm, ⟨1, _⟩ => ⟨S1, .f32⟩
  | .hbm, ⟨2, _⟩ => ⟨S192x8, .f32⟩
  | .hbm, ⟨3, _⟩ => ⟨S8, .f32⟩
  | .hbm, ⟨4, _⟩ => ⟨S8x192x192, .f32⟩
  | .hbm, ⟨5, _⟩ => ⟨S8x192, .f32⟩
  | .hbm, ⟨6, _⟩ => ⟨S16x192x784, .f32⟩
  | .hbm, ⟨7, _⟩ => ⟨S8x192, .f32⟩
  | .hbm, ⟨8, _⟩ => ⟨S8x1, .f32⟩
  | .hbm, ⟨9, _⟩ => ⟨S8x1x192, .f32⟩
  | .hbm, ⟨10, _⟩ => ⟨S16x192x784, .f32⟩
  | .hbm, ⟨11, _⟩ => ⟨S16x192x28x28, .f32⟩
  | .local _ .vmem, ⟨0, _⟩ => ⟨S4x192x784, .f32⟩
  | .local _ .vmem, ⟨1, _⟩ => ⟨S4x192x784, .f32⟩
  | .local _ .vmem, ⟨2, _⟩ => ⟨S8x192, .f32⟩
  | .local _ .vmem, ⟨3, _⟩ => ⟨S8x1, .f32⟩
  | .local _ .vmem, ⟨4, _⟩ => ⟨S8x192x192, .f32⟩
  | .local _ .vmem, ⟨5, _⟩ => ⟨S8x1x192, .f32⟩
  | .local _ .vmem, ⟨6, _⟩ => ⟨S4x192x784, .f32⟩
  | .local _ .vmem, ⟨7, _⟩ => ⟨S4x192x784, .f32⟩
  | .local _ .vmem, ⟨8, _⟩ => ⟨S384x192, .f32⟩
  | .local _ .vmem, ⟨9, _⟩ => ⟨S384x192, .f32⟩
  | .local _ .vmem, ⟨10, _⟩ => ⟨S384x192, .f32⟩
  | .local _ .vmem, ⟨11, _⟩ => ⟨S384x192, .f32⟩
  | .local _ .smem, ⟨0, _⟩ => ⟨S1, .f32⟩
  | _, _ => ⟨S16x192x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def k0_off1 (v46 : BitVec 32) : Fin 3 → Nat :=
  let v51 : Index := Scalar.indexCast v46
  let c0_19 : Index := 0#32
  let c0_20 : Index := 0#32
  ![v51.toNat, 0, 0]

def k0_off2 (v50 : BitVec 32) : Fin 3 → Nat :=
  let v57 : Index := Scalar.indexCast v50
  let c0_23 : Index := 0#32
  let c0_24 : Index := 0#32
  ![v57.toNat, 0, 0]

def k0_off3 (v107 : BitVec 32) : Fin 3 → Nat :=
  let v112 : Index := Scalar.indexCast v107
  let c0_46 : Index := 0#32
  let c0_47 : Index := 0#32
  ![v112.toNat, 0, 0]

def k0_off4 (v111 : BitVec 32) : Fin 3 → Nat :=
  let v118 : Index := Scalar.indexCast v111
  let c0_50 : Index := 0#32
  let c0_51 : Index := 0#32
  ![v118.toNat, 0, 0]

def k0_off5 (v168 : BitVec 32) : Fin 3 → Nat :=
  let v173 : Index := Scalar.indexCast v168
  let c0_74 : Index := 0#32
  let c0_75 : Index := 0#32
  ![v173.toNat, 0, 0]

def k0_off6 (v172 : BitVec 32) : Fin 3 → Nat :=
  let v179 : Index := Scalar.indexCast v172
  let c0_78 : Index := 0#32
  let c0_79 : Index := 0#32
  ![v179.toNat, 0, 0]

def k0_off7 (v229 : BitVec 32) : Fin 3 → Nat :=
  let v234 : Index := Scalar.indexCast v229
  let c0_102 : Index := 0#32
  let c0_103 : Index := 0#32
  ![v234.toNat, 0, 0]

def k0_off8 (v233 : BitVec 32) : Fin 3 → Nat :=
  let v240 : Index := Scalar.indexCast v233
  let c0_106 : Index := 0#32
  let c0_107 : Index := 0#32
  ![v240.toNat, 0, 0]

def k0_off9 (v46 : BitVec 32) : Fin 3 → Nat :=
  let v250 : Index := Scalar.indexCast v46
  let c0_116 : Index := 0#32
  let c0_117 : Index := 0#32
  ![v250.toNat, 0, 0]

def k0_chk1 (v46 : BitVec 32) : Prop :=
  (∀ a, (k0_off1 v46) a + S1x192x192.size a ≤ S8x192x192.size a) ∧
  (∀ a, (k0_off9 v46) a + S1x1x192.size a ≤ S8x1x192.size a)
theorem k0_off1_inb : ∀ (v46 : BitVec 32) (k0_hw1 : k0_chk1 v46), ∀ a, (k0_off1 v46) a + S1x192x192.size a ≤ S8x192x192.size a := fun v46 k0_hw1 => k0_hw1.1
theorem k0_off9_inb : ∀ (v46 : BitVec 32) (k0_hw1 : k0_chk1 v46), ∀ a, (k0_off9 v46) a + S1x1x192.size a ≤ S8x1x192.size a := fun v46 k0_hw1 => k0_hw1.2

def k0_off10 (v50 : BitVec 32) : Fin 3 → Nat :=
  let v255 : Index := Scalar.indexCast v50
  let c0_118 : Index := 0#32
  let c0_119 : Index := 0#32
  ![v255.toNat, 0, 0]

def k0_chk2 (v50 : BitVec 32) : Prop :=
  (∀ a, (k0_off2 v50) a + S1x192x192.size a ≤ S8x192x192.size a) ∧
  (∀ a, (k0_off10 v50) a + S1x1x192.size a ≤ S8x1x192.size a)
theorem k0_off2_inb : ∀ (v50 : BitVec 32) (k0_hw2 : k0_chk2 v50), ∀ a, (k0_off2 v50) a + S1x192x192.size a ≤ S8x192x192.size a := fun v50 k0_hw2 => k0_hw2.1
theorem k0_off10_inb : ∀ (v50 : BitVec 32) (k0_hw2 : k0_chk2 v50), ∀ a, (k0_off10 v50) a + S1x1x192.size a ≤ S8x1x192.size a := fun v50 k0_hw2 => k0_hw2.2

def k0_off11 (v107 : BitVec 32) : Fin 3 → Nat :=
  let v309 : Index := Scalar.indexCast v107
  let c0_137 : Index := 0#32
  let c0_138 : Index := 0#32
  ![v309.toNat, 0, 0]

def k0_chk3 (v107 : BitVec 32) : Prop :=
  (∀ a, (k0_off3 v107) a + S1x192x192.size a ≤ S8x192x192.size a) ∧
  (∀ a, (k0_off11 v107) a + S1x1x192.size a ≤ S8x1x192.size a)
theorem k0_off3_inb : ∀ (v107 : BitVec 32) (k0_hw3 : k0_chk3 v107), ∀ a, (k0_off3 v107) a + S1x192x192.size a ≤ S8x192x192.size a := fun v107 k0_hw3 => k0_hw3.1
theorem k0_off11_inb : ∀ (v107 : BitVec 32) (k0_hw3 : k0_chk3 v107), ∀ a, (k0_off11 v107) a + S1x1x192.size a ≤ S8x1x192.size a := fun v107 k0_hw3 => k0_hw3.2

def k0_off12 (v111 : BitVec 32) : Fin 3 → Nat :=
  let v314 : Index := Scalar.indexCast v111
  let c0_139 : Index := 0#32
  let c0_140 : Index := 0#32
  ![v314.toNat, 0, 0]

def k0_chk4 (v111 : BitVec 32) : Prop :=
  (∀ a, (k0_off4 v111) a + S1x192x192.size a ≤ S8x192x192.size a) ∧
  (∀ a, (k0_off12 v111) a + S1x1x192.size a ≤ S8x1x192.size a)
theorem k0_off4_inb : ∀ (v111 : BitVec 32) (k0_hw4 : k0_chk4 v111), ∀ a, (k0_off4 v111) a + S1x192x192.size a ≤ S8x192x192.size a := fun v111 k0_hw4 => k0_hw4.1
theorem k0_off12_inb : ∀ (v111 : BitVec 32) (k0_hw4 : k0_chk4 v111), ∀ a, (k0_off12 v111) a + S1x1x192.size a ≤ S8x1x192.size a := fun v111 k0_hw4 => k0_hw4.2

def k0_off13 (v168 : BitVec 32) : Fin 3 → Nat :=
  let v368 : Index := Scalar.indexCast v168
  let c0_158 : Index := 0#32
  let c0_159 : Index := 0#32
  ![v368.toNat, 0, 0]

def k0_chk5 (v168 : BitVec 32) : Prop :=
  (∀ a, (k0_off5 v168) a + S1x192x192.size a ≤ S8x192x192.size a) ∧
  (∀ a, (k0_off13 v168) a + S1x1x192.size a ≤ S8x1x192.size a)
theorem k0_off5_inb : ∀ (v168 : BitVec 32) (k0_hw5 : k0_chk5 v168), ∀ a, (k0_off5 v168) a + S1x192x192.size a ≤ S8x192x192.size a := fun v168 k0_hw5 => k0_hw5.1
theorem k0_off13_inb : ∀ (v168 : BitVec 32) (k0_hw5 : k0_chk5 v168), ∀ a, (k0_off13 v168) a + S1x1x192.size a ≤ S8x1x192.size a := fun v168 k0_hw5 => k0_hw5.2

def k0_off14 (v172 : BitVec 32) : Fin 3 → Nat :=
  let v373 : Index := Scalar.indexCast v172
  let c0_160 : Index := 0#32
  let c0_161 : Index := 0#32
  ![v373.toNat, 0, 0]

def k0_chk6 (v172 : BitVec 32) : Prop :=
  (∀ a, (k0_off6 v172) a + S1x192x192.size a ≤ S8x192x192.size a) ∧
  (∀ a, (k0_off14 v172) a + S1x1x192.size a ≤ S8x1x192.size a)
theorem k0_off6_inb : ∀ (v172 : BitVec 32) (k0_hw6 : k0_chk6 v172), ∀ a, (k0_off6 v172) a + S1x192x192.size a ≤ S8x192x192.size a := fun v172 k0_hw6 => k0_hw6.1
theorem k0_off14_inb : ∀ (v172 : BitVec 32) (k0_hw6 : k0_chk6 v172), ∀ a, (k0_off14 v172) a + S1x1x192.size a ≤ S8x1x192.size a := fun v172 k0_hw6 => k0_hw6.2

def k0_off15 (v229 : BitVec 32) : Fin 3 → Nat :=
  let v427 : Index := Scalar.indexCast v229
  let c0_179 : Index := 0#32
  let c0_180 : Index := 0#32
  ![v427.toNat, 0, 0]

def k0_chk7 (v229 : BitVec 32) : Prop :=
  (∀ a, (k0_off7 v229) a + S1x192x192.size a ≤ S8x192x192.size a) ∧
  (∀ a, (k0_off15 v229) a + S1x1x192.size a ≤ S8x1x192.size a)
theorem k0_off7_inb : ∀ (v229 : BitVec 32) (k0_hw7 : k0_chk7 v229), ∀ a, (k0_off7 v229) a + S1x192x192.size a ≤ S8x192x192.size a := fun v229 k0_hw7 => k0_hw7.1
theorem k0_off15_inb : ∀ (v229 : BitVec 32) (k0_hw7 : k0_chk7 v229), ∀ a, (k0_off15 v229) a + S1x1x192.size a ≤ S8x1x192.size a := fun v229 k0_hw7 => k0_hw7.2

def k0_off16 (v233 : BitVec 32) : Fin 3 → Nat :=
  let v432 : Index := Scalar.indexCast v233
  let c0_181 : Index := 0#32
  let c0_182 : Index := 0#32
  ![v432.toNat, 0, 0]

def k0_chk8 (v233 : BitVec 32) : Prop :=
  (∀ a, (k0_off8 v233) a + S1x192x192.size a ≤ S8x192x192.size a) ∧
  (∀ a, (k0_off16 v233) a + S1x1x192.size a ≤ S8x1x192.size a)
theorem k0_off8_inb : ∀ (v233 : BitVec 32) (k0_hw8 : k0_chk8 v233), ∀ a, (k0_off8 v233) a + S1x192x192.size a ≤ S8x192x192.size a := fun v233 k0_hw8 => k0_hw8.1
theorem k0_off16_inb : ∀ (v233 : BitVec 32) (k0_hw8 : k0_chk8 v233), ∀ a, (k0_off16 v233) a + S1x1x192.size a ≤ S8x1x192.size a := fun v233 k0_hw8 => k0_hw8.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x192x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x192x784 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x192x28x28 : Shape := ⟨4, ![16, 192, 28, 28]⟩
abbrev S1 : Shape := ⟨1, ![1]⟩
abbrev S192x8 : Shape := ⟨2, ![192, 8]⟩
abbrev S8 : Shape := ⟨1, ![8]⟩
abbrev S8x192x192 : Shape := ⟨3, ![8, 192, 192]⟩
abbrev S8x192 : Shape := ⟨2, ![8, 192]⟩
abbrev S_ : Shape := ⟨0, ![]⟩
abbrev S16x192 : Shape := ⟨2, ![16, 192]⟩
abbrev S16x8 : Shape := ⟨2, ![16, 8]⟩
abbrev S1x8 : Shape := ⟨2, ![1, 8]⟩
abbrev S16 : Shape := ⟨1, ![16]⟩
abbrev S16x1 : Shape := ⟨2, ![16, 1]⟩
abbrev S16x2 : Shape := ⟨2, ![16, 2]⟩
abbrev S16x2x1 : Shape := ⟨3, ![16, 2, 1]⟩
abbrev S16x2x2 : Shape := ⟨3, ![16, 2, 2]⟩
abbrev S1x192x192 : Shape := ⟨3, ![1, 192, 192]⟩
abbrev S192x192 : Shape := ⟨2, ![192, 192]⟩
abbrev S192x16x28x28 : Shape := ⟨4, ![192, 16, 28, 28]⟩
abbrev S1x192 : Shape := ⟨2, ![1, 192]⟩
abbrev S192 : Shape := ⟨1, ![192]⟩
abbrev S1x192x1x1 : Shape := ⟨4, ![1, 192, 1, 1]⟩
abbrev S16x1x1x1 : Shape := ⟨4, ![16, 1, 1, 1]⟩

abbrev nBuf : Space → Nat
  | .hbm => 334
  | .vmem => 0
  | .smem => 0
  | _ => 0

abbrev hbmTy0_0 (i : Nat) : BufTy := match i % 128 with
  | 0 => ⟨S16x192x28x28, .f32⟩
  | 1 => ⟨S1, .f32⟩
  | 2 => ⟨S192x8, .f32⟩
  | 3 => ⟨S8, .f32⟩
  | 4 => ⟨S8x192x192, .f32⟩
  | 5 => ⟨S8x192, .f32⟩
  | 6 => ⟨S_, .f32⟩
  | 7 => ⟨S16x192, .f32⟩
  | 8 => ⟨S_, .f32⟩
  | 9 => ⟨S16x192, .f32⟩
  | 10 => ⟨S16x192, .f32⟩
  | 11 => ⟨S16x8, .f32⟩
  | 12 => ⟨S1x8, .f32⟩
  | 13 => ⟨S16x8, .f32⟩
  | 14 => ⟨S16x8, .f32⟩
  | 15 => ⟨S_, .f32⟩
  | 16 => ⟨S16, .f32⟩
  | 17 => ⟨S_, .f32⟩
  | 18 => ⟨S16, .f32⟩
  | 19 => ⟨S16, .f32⟩
  | 20 => ⟨S16x1, .f32⟩
  | 21 => ⟨S16x8, .f32⟩
  | 22 => ⟨S16x8, .f32⟩
  | 23 => ⟨S16x8, .f32⟩
  | 24 => ⟨S_, .f32⟩
  | 25 => ⟨S16, .f32⟩
  | 26 => ⟨S16x1, .f32⟩
  | 27 => ⟨S16x8, .f32⟩
  | 28 => ⟨S16x8, .f32⟩
  | 29 => ⟨S16x2, .f32⟩
  | 30 => ⟨S16x2, .i32⟩
  | 31 => ⟨S16, .i32⟩
  | 32 => ⟨S16x1, .i32⟩
  | 33 => ⟨S_, .f32⟩
  | 34 => ⟨S16x8, .f32⟩
  | 35 => ⟨S_, .i32⟩
  | 36 => ⟨S16x1, .i32⟩
  | 37 => ⟨S16x1, .i1⟩
  | 38 => ⟨S_, .i32⟩
  | 39 => ⟨S16x1, .i32⟩
  | 40 => ⟨S16x1, .i32⟩
  | 41 => ⟨S16x1, .i32⟩
  | 42 => ⟨S_, .i32⟩
  | 43 => ⟨S16x2, .i32⟩
  | 44 => ⟨S16x2, .i1⟩
  | 45 => ⟨S_, .i32⟩
  | 46 => ⟨S16x2, .i32⟩
  | 47 => ⟨S16x2, .i32⟩
  | 48 => ⟨S16x2, .i32⟩
  | 49 => ⟨S16x2, .i32⟩
  | 50 => ⟨S16x2x1, .i32⟩
  | 51 => ⟨S16x2x1, .i32⟩
  | 52 => ⟨S16x2x2, .i32⟩
  | 53 => ⟨S16x8, .f32⟩
  | 54 => ⟨S1x192x192, .f32⟩
  | 55 => ⟨S192x192, .f32⟩
  | 56 => ⟨S192x16x28x28, .f32⟩
  | 57 => ⟨S16x192x28x28, .f32⟩
  | 58 => ⟨S1x192, .f32⟩
  | 59 => ⟨S192, .f32⟩
  | 60 => ⟨S1x192x1x1, .f32⟩
  | 61 => ⟨S16x192x28x28, .f32⟩
  | 62 => ⟨S16x192x28x28, .f32⟩
  | 63 => ⟨S16x192x28x28, .f32⟩
  | 64 => ⟨S16x192x28x28, .f32⟩
  | 65 => ⟨S_, .f32⟩
  | 66 => ⟨S16x192x28x28, .f32⟩
  | 67 => ⟨S16x192x28x28, .f32⟩
  | 68 => ⟨S16x192x28x28, .f32⟩
  | 69 => ⟨S_, .f32⟩
  | 70 => ⟨S16x192x28x28, .f32⟩
  | 71 => ⟨S16x192x28x28, .f32⟩
  | 72 => ⟨S16x192x28x28, .f32⟩
  | 73 => ⟨S_, .f32⟩
  | 74 => ⟨S16x192x28x28, .f32⟩
  | 75 => ⟨S16x192x28x28, .f32⟩
  | 76 => ⟨S_, .f32⟩
  | 77 => ⟨S16x192x28x28, .f32⟩
  | 78 => ⟨S16x192x28x28, .f32⟩
  | 79 => ⟨S16x192x28x28, .f32⟩
  | 80 => ⟨S_, .f32⟩
  | 81 => ⟨S16x192x28x28, .f32⟩
  | 82 => ⟨S16x192x28x28, .f32⟩
  | 83 => ⟨S16x1, .f32⟩
  | 84 => ⟨S16, .f32⟩
  | 85 => ⟨S16x1x1x1, .f32⟩
  | 86 => ⟨S16x192x28x28, .f32⟩
  | 87 => ⟨S16x192x28x28, .f32⟩
  | 88 => ⟨S16x192x28x28, .f32⟩
  | 89 => ⟨S1x192x192, .f32⟩
  | 90 => ⟨S192x192, .f32⟩
  | 91 => ⟨S192x16x28x28, .f32⟩
  | 92 => ⟨S16x192x28x28, .f32⟩
  | 93 => ⟨S1x192, .f32⟩
  | 94 => ⟨S192, .f32⟩
  | 95 => ⟨S1x192x1x1, .f32⟩
  | 96 => ⟨S16x192x28x28, .f32⟩
  | 97 => ⟨S16x192x28x28, .f32⟩
  | 98 => ⟨S16x192x28x28, .f32⟩
  | 99 => ⟨S16x192x28x28, .f32⟩
  | 100 => ⟨S_, .f32⟩
  | 101 => ⟨S16x192x28x28, .f32⟩
  | 102 => ⟨S16x192x28x28, .f32⟩
  | 103 => ⟨S16x192x28x28, .f32⟩
  | 104 => ⟨S_, .f32⟩
  | 105 => ⟨S16x192x28x28, .f32⟩
  | 106 => ⟨S16x192x28x28, .f32⟩
  | 107 => ⟨S16x192x28x28, .f32⟩
  | 108 => ⟨S_, .f32⟩
  | 109 => ⟨S16x192x28x28, .f32⟩
  | 110 => ⟨S16x192x28x28, .f32⟩
  | 111 => ⟨S_, .f32⟩
  | 112 => ⟨S16x192x28x28, .f32⟩
  | 113 => ⟨S16x192x28x28, .f32⟩
  | 114 => ⟨S16x192x28x28, .f32⟩
  | 115 => ⟨S_, .f32⟩
  | 116 => ⟨S16x192x28x28, .f32⟩
  | 117 => ⟨S16x192x28x28, .f32⟩
  | 118 => ⟨S16x1, .f32⟩
  | 119 => ⟨S16, .f32⟩
  | 120 => ⟨S16x1x1x1, .f32⟩
  | 121 => ⟨S16x192x28x28, .f32⟩
  | 122 => ⟨S16x192x28x28, .f32⟩
  | 123 => ⟨S16x192x28x28, .f32⟩
  | 124 => ⟨S1x192x192, .f32⟩
  | 125 => ⟨S192x192, .f32⟩
  | 126 => ⟨S192x16x28x28, .f32⟩
  | 127 => ⟨S16x192x28x28, .f32⟩
  | _ => ⟨S16x192x28x28, .f32⟩

abbrev hbmTy0_1 (i : Nat) : BufTy := match i % 128 with
  | 0 => ⟨S1x192, .f32⟩
  | 1 => ⟨S192, .f32⟩
  | 2 => ⟨S1x192x1x1, .f32⟩
  | 3 => ⟨S16x192x28x28, .f32⟩
  | 4 => ⟨S16x192x28x28, .f32⟩
  | 5 => ⟨S16x192x28x28, .f32⟩
  | 6 => ⟨S16x192x28x28, .f32⟩
  | 7 => ⟨S_, .f32⟩
  | 8 => ⟨S16x192x28x28, .f32⟩
  | 9 => ⟨S16x192x28x28, .f32⟩
  | 10 => ⟨S16x192x28x28, .f32⟩
  | 11 => ⟨S_, .f32⟩
  | 12 => ⟨S16x192x28x28, .f32⟩
  | 13 => ⟨S16x192x28x28, .f32⟩
  | 14 => ⟨S16x192x28x28, .f32⟩
  | 15 => ⟨S_, .f32⟩
  | 16 => ⟨S16x192x28x28, .f32⟩
  | 17 => ⟨S16x192x28x28, .f32⟩
  | 18 => ⟨S_, .f32⟩
  | 19 => ⟨S16x192x28x28, .f32⟩
  | 20 => ⟨S16x192x28x28, .f32⟩
  | 21 => ⟨S16x192x28x28, .f32⟩
  | 22 => ⟨S_, .f32⟩
  | 23 => ⟨S16x192x28x28, .f32⟩
  | 24 => ⟨S16x192x28x28, .f32⟩
  | 25 => ⟨S16x1, .f32⟩
  | 26 => ⟨S16, .f32⟩
  | 27 => ⟨S16x1x1x1, .f32⟩
  | 28 => ⟨S16x192x28x28, .f32⟩
  | 29 => ⟨S16x192x28x28, .f32⟩
  | 30 => ⟨S16x192x28x28, .f32⟩
  | 31 => ⟨S1x192x192, .f32⟩
  | 32 => ⟨S192x192, .f32⟩
  | 33 => ⟨S192x16x28x28, .f32⟩
  | 34 => ⟨S16x192x28x28, .f32⟩
  | 35 => ⟨S1x192, .f32⟩
  | 36 => ⟨S192, .f32⟩
  | 37 => ⟨S1x192x1x1, .f32⟩
  | 38 => ⟨S16x192x28x28, .f32⟩
  | 39 => ⟨S16x192x28x28, .f32⟩
  | 40 => ⟨S16x192x28x28, .f32⟩
  | 41 => ⟨S16x192x28x28, .f32⟩
  | 42 => ⟨S_, .f32⟩
  | 43 => ⟨S16x192x28x28, .f32⟩
  | 44 => ⟨S16x192x28x28, .f32⟩
  | 45 => ⟨S16x192x28x28, .f32⟩
  | 46 => ⟨S_, .f32⟩
  | 47 => ⟨S16x192x28x28, .f32⟩
  | 48 => ⟨S16x192x28x28, .f32⟩
  | 49 => ⟨S16x192x28x28, .f32⟩
  | 50 => ⟨S_, .f32⟩
  | 51 => ⟨S16x192x28x28, .f32⟩
  | 52 => ⟨S16x192x28x28, .f32⟩
  | 53 => ⟨S_, .f32⟩
  | 54 => ⟨S16x192x28x28, .f32⟩
  | 55 => ⟨S16x192x28x28, .f32⟩
  | 56 => ⟨S16x192x28x28, .f32⟩
  | 57 => ⟨S_, .f32⟩
  | 58 => ⟨S16x192x28x28, .f32⟩
  | 59 => ⟨S16x192x28x28, .f32⟩
  | 60 => ⟨S16x1, .f32⟩
  | 61 => ⟨S16, .f32⟩
  | 62 => ⟨S16x1x1x1, .f32⟩
  | 63 => ⟨S16x192x28x28, .f32⟩
  | 64 => ⟨S16x192x28x28, .f32⟩
  | 65 => ⟨S16x192x28x28, .f32⟩
  | 66 => ⟨S1x192x192, .f32⟩
  | 67 => ⟨S192x192, .f32⟩
  | 68 => ⟨S192x16x28x28, .f32⟩
  | 69 => ⟨S16x192x28x28, .f32⟩
  | 70 => ⟨S1x192, .f32⟩
  | 71 => ⟨S192, .f32⟩
  | 72 => ⟨S1x192x1x1, .f32⟩
  | 73 => ⟨S16x192x28x28, .f32⟩
  | 74 => ⟨S16x192x28x28, .f32⟩
  | 75 => ⟨S16x192x28x28, .f32⟩
  | 76 => ⟨S16x192x28x28, .f32⟩
  | 77 => ⟨S_, .f32⟩
  | 78 => ⟨S16x192x28x28, .f32⟩
  | 79 => ⟨S16x192x28x28, .f32⟩
  | 80 => ⟨S16x192x28x28, .f32⟩
  | 81 => ⟨S_, .f32⟩
  | 82 => ⟨S16x192x28x28, .f32⟩
  | 83 => ⟨S16x192x28x28, .f32⟩
  | 84 => ⟨S16x192x28x28, .f32⟩
  | 85 => ⟨S_, .f32⟩
  | 86 => ⟨S16x192x28x28, .f32⟩
  | 87 => ⟨S16x192x28x28, .f32⟩
  | 88 => ⟨S_, .f32⟩
  | 89 => ⟨S16x192x28x28, .f32⟩
  | 90 => ⟨S16x192x28x28, .f32⟩
  | 91 => ⟨S16x192x28x28, .f32⟩
  | 92 => ⟨S_, .f32⟩
  | 93 => ⟨S16x192x28x28, .f32⟩
  | 94 => ⟨S16x192x28x28, .f32⟩
  | 95 => ⟨S16x1, .f32⟩
  | 96 => ⟨S16, .f32⟩
  | 97 => ⟨S16x1x1x1, .f32⟩
  | 98 => ⟨S16x192x28x28, .f32⟩
  | 99 => ⟨S16x192x28x28, .f32⟩
  | 100 => ⟨S16x192x28x28, .f32⟩
  | 101 => ⟨S1x192x192, .f32⟩
  | 102 => ⟨S192x192, .f32⟩
  | 103 => ⟨S192x16x28x28, .f32⟩
  | 104 => ⟨S16x192x28x28, .f32⟩
  | 105 => ⟨S1x192, .f32⟩
  | 106 => ⟨S192, .f32⟩
  | 107 => ⟨S1x192x1x1, .f32⟩
  | 108 => ⟨S16x192x28x28, .f32⟩
  | 109 => ⟨S16x192x28x28, .f32⟩
  | 110 => ⟨S16x192x28x28, .f32⟩
  | 111 => ⟨S16x192x28x28, .f32⟩
  | 112 => ⟨S_, .f32⟩
  | 113 => ⟨S16x192x28x28, .f32⟩
  | 114 => ⟨S16x192x28x28, .f32⟩
  | 115 => ⟨S16x192x28x28, .f32⟩
  | 116 => ⟨S_, .f32⟩
  | 117 => ⟨S16x192x28x28, .f32⟩
  | 118 => ⟨S16x192x28x28, .f32⟩
  | 119 => ⟨S16x192x28x28, .f32⟩
  | 120 => ⟨S_, .f32⟩
  | 121 => ⟨S16x192x28x28, .f32⟩
  | 122 => ⟨S16x192x28x28, .f32⟩
  | 123 => ⟨S_, .f32⟩
  | 124 => ⟨S16x192x28x28, .f32⟩
  | 125 => ⟨S16x192x28x28, .f32⟩
  | 126 => ⟨S16x192x28x28, .f32⟩
  | 127 => ⟨S_, .f32⟩
  | _ => ⟨S16x192x28x28, .f32⟩

abbrev hbmTy0_2 (i : Nat) : BufTy := match i % 128 with
  | 0 => ⟨S16x192x28x28, .f32⟩
  | 1 => ⟨S16x192x28x28, .f32⟩
  | 2 => ⟨S16x1, .f32⟩
  | 3 => ⟨S16, .f32⟩
  | 4 => ⟨S16x1x1x1, .f32⟩
  | 5 => ⟨S16x192x28x28, .f32⟩
  | 6 => ⟨S16x192x28x28, .f32⟩
  | 7 => ⟨S16x192x28x28, .f32⟩
  | 8 => ⟨S1x192x192, .f32⟩
  | 9 => ⟨S192x192, .f32⟩
  | 10 => ⟨S192x16x28x28, .f32⟩
  | 11 => ⟨S16x192x28x28, .f32⟩
  | 12 => ⟨S1x192, .f32⟩
  | 13 => ⟨S192, .f32⟩
  | 14 => ⟨S1x192x1x1, .f32⟩
  | 15 => ⟨S16x192x28x28, .f32⟩
  | 16 => ⟨S16x192x28x28, .f32⟩
  | 17 => ⟨S16x192x28x28, .f32⟩
  | 18 => ⟨S16x192x28x28, .f32⟩
  | 19 => ⟨S_, .f32⟩
  | 20 => ⟨S16x192x28x28, .f32⟩
  | 21 => ⟨S16x192x28x28, .f32⟩
  | 22 => ⟨S16x192x28x28, .f32⟩
  | 23 => ⟨S_, .f32⟩
  | 24 => ⟨S16x192x28x28, .f32⟩
  | 25 => ⟨S16x192x28x28, .f32⟩
  | 26 => ⟨S16x192x28x28, .f32⟩
  | 27 => ⟨S_, .f32⟩
  | 28 => ⟨S16x192x28x28, .f32⟩
  | 29 => ⟨S16x192x28x28, .f32⟩
  | 30 => ⟨S_, .f32⟩
  | 31 => ⟨S16x192x28x28, .f32⟩
  | 32 => ⟨S16x192x28x28, .f32⟩
  | 33 => ⟨S16x192x28x28, .f32⟩
  | 34 => ⟨S_, .f32⟩
  | 35 => ⟨S16x192x28x28, .f32⟩
  | 36 => ⟨S16x192x28x28, .f32⟩
  | 37 => ⟨S16x1, .f32⟩
  | 38 => ⟨S16, .f32⟩
  | 39 => ⟨S16x1x1x1, .f32⟩
  | 40 => ⟨S16x192x28x28, .f32⟩
  | 41 => ⟨S16x192x28x28, .f32⟩
  | 42 => ⟨S16x192x28x28, .f32⟩
  | 43 => ⟨S1x192x192, .f32⟩
  | 44 => ⟨S192x192, .f32⟩
  | 45 => ⟨S192x16x28x28, .f32⟩
  | 46 => ⟨S16x192x28x28, .f32⟩
  | 47 => ⟨S1x192, .f32⟩
  | 48 => ⟨S192, .f32⟩
  | 49 => ⟨S1x192x1x1, .f32⟩
  | 50 => ⟨S16x192x28x28, .f32⟩
  | 51 => ⟨S16x192x28x28, .f32⟩
  | 52 => ⟨S16x192x28x28, .f32⟩
  | 53 => ⟨S16x192x28x28, .f32⟩
  | 54 => ⟨S_, .f32⟩
  | 55 => ⟨S16x192x28x28, .f32⟩
  | 56 => ⟨S16x192x28x28, .f32⟩
  | 57 => ⟨S16x192x28x28, .f32⟩
  | 58 => ⟨S_, .f32⟩
  | 59 => ⟨S16x192x28x28, .f32⟩
  | 60 => ⟨S16x192x28x28, .f32⟩
  | 61 => ⟨S16x192x28x28, .f32⟩
  | 62 => ⟨S_, .f32⟩
  | 63 => ⟨S16x192x28x28, .f32⟩
  | 64 => ⟨S16x192x28x28, .f32⟩
  | 65 => ⟨S_, .f32⟩
  | 66 => ⟨S16x192x28x28, .f32⟩
  | 67 => ⟨S16x192x28x28, .f32⟩
  | 68 => ⟨S16x192x28x28, .f32⟩
  | 69 => ⟨S_, .f32⟩
  | 70 => ⟨S16x192x28x28, .f32⟩
  | 71 => ⟨S16x192x28x28, .f32⟩
  | 72 => ⟨S16x1, .f32⟩
  | 73 => ⟨S16, .f32⟩
  | 74 => ⟨S16x1x1x1, .f32⟩
  | 75 => ⟨S16x192x28x28, .f32⟩
  | 76 => ⟨S16x192x28x28, .f32⟩
  | 77 => ⟨S16x192x28x28, .f32⟩
  | _ => ⟨S16x192x28x28, .f32⟩

abbrev hbmTy (i : Nat) : BufTy := match i / 128 with
  | 0 => hbmTy0_0 i
  | 1 => hbmTy0_1 i
  | 2 => hbmTy0_2 i
  | _ => ⟨S16x192x28x28, .f32⟩

abbrev bufTy : (tb : Table) → Fin (tcTables nBuf tb) → BufTy
  | .hbm, ⟨i, _⟩ => hbmTy i
  | _, _ => ⟨S16x192x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_values : Ref sig .tc := ⟨.hbm, 29, rfl⟩
abbrev main_indices : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_12 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_16 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_17 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_18 : Ref sig .tc := ⟨.hbm, 143, rfl⟩
abbrev main_v115 : Ref sig .tc := ⟨.hbm, 144, rfl⟩
abbrev main_v116 : Ref sig .tc := ⟨.hbm, 145, rfl⟩
abbrev main_cst_19 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_20 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_21 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_22 : Ref sig .tc := ⟨.hbm, 178, rfl⟩
abbrev main_v146 : Ref sig .tc := ⟨.hbm, 179, rfl⟩
abbrev main_v147 : Ref sig .tc := ⟨.hbm, 180, rfl⟩
abbrev main_cst_23 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_cst_24 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_25 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_26 : Ref sig .tc := ⟨.hbm, 213, rfl⟩
abbrev main_v177 : Ref sig .tc := ⟨.hbm, 214, rfl⟩
abbrev main_v178 : Ref sig .tc := ⟨.hbm, 215, rfl⟩
abbrev main_cst_27 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_cst_28 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_cst_29 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_cst_30 : Ref sig .tc := ⟨.hbm, 248, rfl⟩
abbrev main_v208 : Ref sig .tc := ⟨.hbm, 249, rfl⟩
abbrev main_v209 : Ref sig .tc := ⟨.hbm, 250, rfl⟩
abbrev main_cst_31 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_cst_32 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_cst_33 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_cst_34 : Ref sig .tc := ⟨.hbm, 283, rfl⟩
abbrev main_v239 : Ref sig .tc := ⟨.hbm, 284, rfl⟩
abbrev main_v240 : Ref sig .tc := ⟨.hbm, 285, rfl⟩
abbrev main_cst_35 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_cst_36 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_cst_37 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_cst_38 : Ref sig .tc := ⟨.hbm, 318, rfl⟩
abbrev main_v270 : Ref sig .tc := ⟨.hbm, 319, rfl⟩
abbrev main_v271 : Ref sig .tc := ⟨.hbm, 320, rfl⟩
abbrev main_cst_39 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩

abbrev nD : Nat := 1
abbrev τ : Topo := Topo.v7x

variable {F : FTy → Type} [FloatOps F]
-- ==== Proof.RefFrame.lean ====
/- The reference's run leaves its arguments as they were and no semaphore raised: it has none. -/
module

public import proofs.«01_k».proof.Defs
public import proofs.«01_k».proof.Proof.Gen.ReferenceIdeal.Run
public import Idealize.ShloMosaic.Lib.Quiescent

@[expose] public section

noncomputable section

namespace Cert.ReferenceIdeal.Value

open Idealize.ShloMosaic Idealize.ShloMosaic.TcCoe Idealize.SL.Sem Cert.ReferenceIdeal Cert.ReferenceIdeal.Gen

/-- The reference's frame over the extended reals. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (run m ρ)

end Cert.ReferenceIdeal.Value

end
-- ==== Proof.Choice.lean ====
/- The choice of two experts, as mathematics: eight extended reals, the first place where they are greatest, the first
   place where the others are greatest, and what makes these two places unique. No program is named here. -/
module

public import Idealize.ShloMosaic.PureOps.Ideal.Laws
public import Idealize.ShloMosaic.Lib.SortFacts

@[expose] public section

noncomputable section

namespace Cert.Moe

open Idealize.ShloMosaic

/-- The first of eight places where `P` holds, eight if it holds nowhere. -/
def least (P : Fin 8 → Bool) : Nat := (List.finRange 8).findIdx P

theorem least_lt {P : Fin 8 → Bool} {e : Fin 8} (h : P e = true) : least P < 8 := by
  have := List.findIdx_lt_length_of_exists (xs := List.finRange 8) (p := P) ⟨e, List.mem_finRange e, h⟩
  simpa [least] using this

theorem least_spec {P : Fin 8 → Bool} (h : least P < 8) : P ⟨least P, h⟩ = true := by
  have := List.findIdx_getElem (xs := List.finRange 8) (p := P) (w := by simpa [least] using h)
  simpa [least] using this

theorem not_of_lt_least {P : Fin 8 → Bool} {e : Fin 8} (h : e.val < least P) : P e = false := by
  have := List.not_of_lt_findIdx (xs := List.finRange 8) (p := P) (i := e.val) h
  simpa using this

/-- The least number a vector of words names, each word being its place where `P` holds and 8 elsewhere, is the first
    place where `P` holds. -/
theorem fold_min_places : ∀ P : Fin 8 → Bool,
    (Finset.univ : Finset (Fin 8)).fold IntOp.minsi 2147483647#32 (fun e => if P e then BitVec.ofNat 32 e.val else 8#32)
      = BitVec.ofNat 32 (least P) := by
  unfold least
  decide +kernel

/-- The greatest of eight extended reals. -/
def top (w : Fin 8 → EReal) : EReal := Finset.univ.sup w

theorem le_top (w : Fin 8 → EReal) (e : Fin 8) : w e ≤ top w := Finset.le_sup (Finset.mem_univ e)

theorem top_mem (w : Fin 8 → EReal) : ∃ e, w e = top w := by
  obtain ⟨e, -, h⟩ := Finset.exists_mem_eq_sup Finset.univ ⟨0, Finset.mem_univ _⟩ w
  exact ⟨e, h.symm⟩

theorem arg_lt (w : Fin 8 → EReal) : least (fun e => decide (w e = top w)) < 8 := by
  obtain ⟨e, h⟩ := top_mem w
  exact least_lt (e := e) (by simpa using h)

/-- The first place where eight extended reals are greatest. -/
def arg (w : Fin 8 → EReal) : Fin 8 := ⟨least (fun e => decide (w e = top w)), arg_lt w⟩

theorem w_arg (w : Fin 8 → EReal) : w (arg w) = top w := by
  have := least_spec (arg_lt w)
  exact of_decide_eq_true this

/-- Place `a` comes before place `b`: the greater first, equals in order. -/
def Before (w : Fin 8 → EReal) (a b : Fin 8) : Prop := w b < w a ∨ (w a = w b ∧ a < b)

theorem Before.asymm {w : Fin 8 → EReal} {a b : Fin 8} (h : Before w a b) : ¬ Before w b a := by
  rintro (h' | ⟨e', l'⟩) <;> rcases h with h | ⟨e, l⟩
  · exact absurd h (not_lt.2 h'.le)
  · exact absurd h' (by rw [e]; exact lt_irrefl _)
  · exact absurd h (by rw [e']; exact lt_irrefl _)
  · exact absurd l (not_lt.2 l'.le)

theorem before_arg (w : Fin 8 → EReal) {e : Fin 8} (h : e ≠ arg w) : Before w (arg w) e := by
  rcases lt_or_eq_of_le (le_top w e) with l | l
  · exact Or.inl (by rw [w_arg w]; exact l)
  · refine Or.inr ⟨by rw [w_arg w, l], ?_⟩
    rcases lt_trichotomy e (arg w) with l' | l' | l'
    · exact absurd l (by simpa using not_of_lt_least (P := fun e => decide (w e = top w)) l')
    · exact absurd l' h
    · exact l'

/-- The same extended reals with the greatest put out of the way: −1 in its place. -/
def rest (w : Fin 8 → EReal) : Fin 8 → EReal := fun e => if e = arg w then -1 else w e

variable {w : Fin 8 → EReal} (hw : ∀ e, 0 ≤ w e)
include hw

theorem neg_one_lt_top_rest : (-1 : EReal) < top (rest w) := by
  obtain ⟨e, he⟩ : ∃ e : Fin 8, e ≠ arg w := exists_ne _
  refine lt_of_lt_of_le ?_ (le_top (rest w) e)
  rw [rest, if_neg he]
  exact lt_of_lt_of_le (EReal.neg_lt_comm.1 (by simp)) (hw e)

theorem arg_rest_ne : arg (rest w) ≠ arg w := fun h => by
  have := w_arg (rest w)
  rw [h, rest, if_pos rfl] at this
  exact (neg_one_lt_top_rest hw).ne this

theorem rest_arg : top (rest w) = w (arg (rest w)) := by
  rw [← w_arg (rest w)]; exact if_neg (arg_rest_ne hw)

theorem before_arg_rest {e : Fin 8} (h : e ≠ arg w) (h' : e ≠ arg (rest w)) : Before w (arg (rest w)) e := by
  have b := before_arg (rest w) h'
  unfold Before at b ⊢
  simpa only [rest, if_neg h, if_neg (arg_rest_ne hw)] using b

/-- Two different places that come before every other, in this order, are the ones chosen. -/
theorem choice_unique {a b : Fin 8} (hab : b ≠ a) (ha : ∀ e, e ≠ a → Before w a e)
    (hb : ∀ e, e ≠ a → e ≠ b → Before w b e) : a = arg w ∧ b = arg (rest w) := by
  have h1 : a = arg w := by
    by_contra h
    exact (ha _ (Ne.symm h)).asymm (before_arg w h)
  subst h1
  refine ⟨rfl, ?_⟩
  by_contra h
  exact (hb _ (arg_rest_ne hw) (Ne.symm h)).asymm (before_arg_rest hw hab h)

end Cert.Moe

end
-- ==== Proof.Column.lean ====
/- The kernel's choice of two experts, read over the extended reals: from a column of eight logits the softmax weights,
   the greatest weight and its first place, the weights with that one put out of the way, and the same two again. -/
module

public import proofs.«01_k».proof.Proof.Gen.KernelIdeal.Skeleton
public import proofs.«01_k».proof.Proof.Choice
public import Idealize.ShloMosaic.Lib.Pointwise

@[expose] public section

set_option maxRecDepth 16384

noncomputable section

namespace Cert.KernelIdeal.Value

open Idealize.ShloMosaic
open Cert.KernelIdeal Cert.KernelIdeal.Gen Cert.Moe

/-- A column vector of eight as a function of the row. -/
def col (v : FVec Ideal S8x1 .f32) (e : Fin 8) : EReal := v (ix2 e 0)

/-- The row numbers, as the kernel makes them. -/
abbrev rows : IVec S8x1 32 := iota .tc S8x1 32 [0] iota_S8x1_d0_w32

theorem neg_inf : Ideal.ofBits .f32 0xFF800000#32 = ⊥ := by simp [Ideal.ofBits, Ideal.ieee]
theorem neg_one : Ideal.ofBits .f32 0xBF800000#32 = -1 := by
  simp [Ideal.ofBits, Ideal.ieee]
  rw [← EReal.coe_mul, ← EReal.coe_one]
  norm_num

theorem rows_apply (e : Fin 8) : rows (ix2 e 0) = BitVec.ofNat 32 e.val := by
  pointwise [rows]

theorem fold_max_bot (f : Fin 8 → EReal) : (Finset.univ : Finset (Fin 8)).fold max ⊥ f = top f := by
  rfl

/-- The weights of the logits: each exponential of the difference to the greatest, over their sum. -/
def soft (l : Fin 8 → EReal) (e : Fin 8) : EReal :=
  Ideal.div (Ideal.exp (l e - top l)) (∑ i : Fin 8, Ideal.exp (l i - top l))

/-- The least row at which a column is its greatest, as the kernel takes it, is the first such place. -/
theorem fold_min_arg (w : Fin 8 → EReal) :
    (Finset.univ : Finset (Fin 8)).fold IntOp.minsi 2147483647#32 (fun x => if w x = top w then BitVec.ofNat 32 x.val else 8#32)
      = BitVec.ofNat 32 (arg w).val := by
  have h := fold_min_places fun e => decide (w e = top w)
  simp only [decide_eq_true_eq] at h
  exact h

/-- The greatest of one word is the word. -/
theorem fold_one (c : BitVec 32) : (Finset.univ : Finset (Fin 1 × Fin 1)).fold IntOp.maxsi 2147483648#32 (fun _ => c)
    = IntOp.maxsi c 2147483648#32 := by
  rw [show (Finset.univ : Finset (Fin 1 × Fin 1)) = {(0, 0)} from rfl, Finset.fold_singleton]

theorem maxsi_row (e : Fin 8) : IntOp.maxsi (BitVec.ofNat 32 e.val) 2147483648#32 = BitVec.ofNat 32 e.val := by
  revert e; decide +kernel

theorem cmpi_row (a b : Fin 8) : IntOp.cmpi .eq (BitVec.ofNat 32 a.val) (BitVec.ofNat 32 b.val) = BitVec.ofBool (decide (a = b)) := by
  revert a b; decide +kernel

theorem select_ofBool (p : Prop) [Decidable p] (a b : EReal) : Scalar.select (BitVec.ofBool (decide p)) a b = if p then a else b := by
  by_cases h : p <;> simp [Scalar.select, h]

variable (v : FVec Ideal S8x1 .f32)

theorem pay14_col (e : Fin 8) : k0_pay14 v (ix2 e 0) = soft (col v) e := by
  pointwise [k0_pay14, neg_inf, fold_max_bot]
  rfl

theorem pay15_eq (j : S1x1.Idx) : k0_pay15 v j = top (soft (col v)) := by
  idx_vars j
  pointwise [k0_pay15, pay14_col, neg_inf, fold_max_bot]

theorem pay16_eq (j : S1x1.Idx) : k0_pay16 rows v j = BitVec.ofNat 32 (arg (soft (col v))).val := by
  idx_vars j
  pointwise [k0_pay16, pay14_col, pay15_eq, rows]
  exact fold_min_arg _

theorem pay17_col (e : Fin 8) : k0_pay17 rows v (ix2 e 0) = rest (soft (col v)) e := by
  pointwise [k0_pay17, pay14_col, pay16_eq, rows_apply, neg_one]
  rw [cmpi_row, select_ofBool]
  rfl

theorem pay18_eq (j : S1x1.Idx) : k0_pay18 rows v j = top (rest (soft (col v))) := by
  idx_vars j
  pointwise [k0_pay18, pay17_col, neg_inf, fold_max_bot]

theorem pay19_word : extractAt ![0, 0, 0] (k0_pay19 rows v) inpos_S1x1x1_p0_0_0 = BitVec.ofNat 32 (arg (soft (col v))).val := by
  pointwise [k0_pay19, pay16_eq]
  rw [fold_one, maxsi_row]

theorem pay20_word : extractAt ![0, 0, 0] (k0_pay20 rows v) inpos_S1x1x1_p0_0_0 = BitVec.ofNat 32 (arg (rest (soft (col v)))).val := by
  pointwise [k0_pay20, pay17_col, pay18_eq, rows_apply]
  rw [fold_one, fold_min_arg, maxsi_row]

/-! ### The four images of a block choose alike: each image's words are the second's at its own logits. -/

section Images

variable (x : Vec Ideal S1x192x784 .f32) (g : Vec Ideal S8x192 .f32) (b : Vec Ideal S8x1 .f32)

/-- The weights the gate gives the eight experts for an image. -/
def wts : Fin 8 → EReal := soft (col (k0_pay13 x g b))

/-- The expert chosen first for an image. -/
def fst : Fin 8 := arg (wts x g b)

/-- The expert chosen second. -/
def snd : Fin 8 := arg (rest (wts x g b))

theorem word1 : extractAt ![0, 0, 0] (k0_pay9 (k0_pay4 x g b)) inpos_S1x1x1_p0_0_0 = BitVec.ofNat 32 (fst x g b).val :=
  pay19_word (k0_pay13 x g b)
theorem word2 : extractAt ![0, 0, 0] (k0_pay10 rows (k0_pay7 x g b) k0_pay8) inpos_S1x1x1_p0_0_0 = BitVec.ofNat 32 (snd x g b).val :=
  pay20_word (k0_pay13 x g b)
theorem word3 : extractAt ![0, 0, 0] (k0_pay19 rows (k0_pay13 x g b)) inpos_S1x1x1_p0_0_0 = BitVec.ofNat 32 (fst x g b).val :=
  pay19_word (k0_pay13 x g b)
theorem word4 : extractAt ![0, 0, 0] (k0_pay20 rows (k0_pay13 x g b)) inpos_S1x1x1_p0_0_0 = BitVec.ofNat 32 (snd x g b).val :=
  pay20_word (k0_pay13 x g b)
theorem word5 : extractAt ![0, 0, 0] (k0_pay30 (k0_pay25 rows x g b)) inpos_S1x1x1_p0_0_0 = BitVec.ofNat 32 (fst x g b).val :=
  pay19_word (k0_pay13 x g b)
theorem word6 : extractAt ![0, 0, 0] (k0_pay31 rows (k0_pay23 x g b) (k0_pay26 rows x g b) (k0_pay27 (F := Ideal))) inpos_S1x1x1_p0_0_0
    = BitVec.ofNat 32 (snd x g b).val :=
  pay20_word (k0_pay13 x g b)
theorem word7 : extractAt ![0, 0, 0] (k0_pay40 rows (k0_pay34 x) g b) inpos_S1x1x1_p0_0_0 = BitVec.ofNat 32 (fst x g b).val :=
  pay19_word (k0_pay13 x g b)
theorem word8 : extractAt ![0, 0, 0] (k0_pay41 rows (k0_pay34 x) g b) inpos_S1x1x1_p0_0_0 = BitVec.ofNat 32 (snd x g b).val :=
  pay20_word (k0_pay13 x g b)

/-- The weight of the first choice, broadcast or not, in the form each image has it. -/
theorem top1 (j : S1x1.Idx) : k0_pay3 x g b j = top (wts x g b) := pay15_eq (k0_pay13 x g b) j
theorem top2 (j : S1x1.Idx) : k0_pay6 x g b j = top (rest (wts x g b)) := pay18_eq (k0_pay13 x g b) j
theorem top3 (j : S1x1.Idx) : k0_pay15 (k0_pay13 x g b) j = top (wts x g b) := pay15_eq (k0_pay13 x g b) j
theorem top4 (j : S1x1.Idx) : k0_pay18 rows (k0_pay13 x g b) j = top (rest (wts x g b)) := pay18_eq (k0_pay13 x g b) j
theorem top5 (j : S1x1.Idx) : k0_pay24 x g b j = top (wts x g b) := pay15_eq (k0_pay13 x g b) j
theorem top6 (j : S1x1.Idx) : k0_pay29 (k0_pay23 x g b) (k0_pay26 rows x g b) (k0_pay27 (F := Ideal)) j = top (rest (wts x g b)) :=
  pay18_eq (k0_pay13 x g b) j
theorem top7 (j : S1x1.Idx) : k0_pay36 (k0_pay34 x) g b j = top (wts x g b) := pay15_eq (k0_pay13 x g b) j
theorem top8 (j : S1x1.Idx) : k0_pay39 rows (k0_pay34 x) g b j = top (rest (wts x g b)) := pay18_eq (k0_pay13 x g b) j

end Images

/-! ### The words are in range -/

theorem inRange : ∀ e : Fin 8, k0_chk1 (BitVec.ofNat 32 e.val) ∧ k0_chk2 (BitVec.ofNat 32 e.val) ∧ k0_chk3 (BitVec.ofNat 32 e.val)
    ∧ k0_chk4 (BitVec.ofNat 32 e.val) ∧ k0_chk5 (BitVec.ofNat 32 e.val) ∧ k0_chk6 (BitVec.ofNat 32 e.val)
    ∧ k0_chk7 (BitVec.ofNat 32 e.val) ∧ k0_chk8 (BitVec.ofNat 32 e.val) := by
  decide +kernel

/-- A load at an expert's number is in range: one statement per image and choice. -/
theorem ck1 {v : BitVec 32} {e : Fin 8} (h : v = BitVec.ofNat 32 e.val) : k0_chk1 v := h ▸ (inRange e).1
theorem ck2 {v : BitVec 32} {e : Fin 8} (h : v = BitVec.ofNat 32 e.val) : k0_chk2 v := h ▸ (inRange e).2.1
theorem ck3 {v : BitVec 32} {e : Fin 8} (h : v = BitVec.ofNat 32 e.val) : k0_chk3 v := h ▸ (inRange e).2.2.1
theorem ck4 {v : BitVec 32} {e : Fin 8} (h : v = BitVec.ofNat 32 e.val) : k0_chk4 v := h ▸ (inRange e).2.2.2.1
theorem ck5 {v : BitVec 32} {e : Fin 8} (h : v = BitVec.ofNat 32 e.val) : k0_chk5 v := h ▸ (inRange e).2.2.2.2.1
theorem ck6 {v : BitVec 32} {e : Fin 8} (h : v = BitVec.ofNat 32 e.val) : k0_chk6 v := h ▸ (inRange e).2.2.2.2.2.1
theorem ck7 {v : BitVec 32} {e : Fin 8} (h : v = BitVec.ofNat 32 e.val) : k0_chk7 v := h ▸ (inRange e).2.2.2.2.2.2.1
theorem ck8 {v : BitVec 32} {e : Fin 8} (h : v = BitVec.ofNat 32 e.val) : k0_chk8 v := h ▸ (inRange e).2.2.2.2.2.2.2

section Checks

variable (x : Vec Ideal S1x192x784 .f32) (g : Vec Ideal S8x192 .f32) (b : Vec Ideal S8x1 .f32)

theorem chk1 : k0_chk1 (extractAt ![0, 0, 0] (k0_pay9 (k0_pay4 x g b)) inpos_S1x1x1_p0_0_0) := ck1 (word1 x g b)
theorem chk2 : k0_chk2 (extractAt ![0, 0, 0] (k0_pay10 rows (k0_pay7 x g b) k0_pay8) inpos_S1x1x1_p0_0_0) := ck2 (word2 x g b)
theorem chk3 : k0_chk3 (extractAt ![0, 0, 0] (k0_pay19 rows (k0_pay13 x g b)) inpos_S1x1x1_p0_0_0) := ck3 (word3 x g b)
theorem chk4 : k0_chk4 (extractAt ![0, 0, 0] (k0_pay20 rows (k0_pay13 x g b)) inpos_S1x1x1_p0_0_0) := ck4 (word4 x g b)
theorem chk5 : k0_chk5 (extractAt ![0, 0, 0] (k0_pay30 (k0_pay25 rows x g b)) inpos_S1x1x1_p0_0_0) := ck5 (word5 x g b)
theorem chk6 : k0_chk6 (extractAt ![0, 0, 0] (k0_pay31 rows (k0_pay23 x g b) (k0_pay26 rows x g b) (k0_pay27 (F := Ideal))) inpos_S1x1x1_p0_0_0) := ck6 (word6 x g b)
theorem chk7 : k0_chk7 (extractAt ![0, 0, 0] (k0_pay40 rows (k0_pay34 x) g b) inpos_S1x1x1_p0_0_0) := ck7 (word7 x g b)
theorem chk8 : k0_chk8 (extractAt ![0, 0, 0] (k0_pay41 rows (k0_pay34 x) g b) inpos_S1x1x1_p0_0_0) := ck8 (word8 x g b)

end Checks

end Cert.KernelIdeal.Value

end
-- ==== Proof.Image.lean ====
/- One image of a step, read over the extended reals: two experts' products come from one product with their stacked
   matrices, each gets its bias and its activation, is scaled by the gate's weight, and is added to the image. The four
   images of a step are written with their operations split at different places; they are one function. -/
module

public import proofs.«01_k».proof.Proof.Column
public import Idealize.ShloMosaic.Lib.WritesUnit
public import Idealize.ShloMosaic.Lib.Pipeline.FrameBody
public import Idealize.ShloMosaic.Lib.Pipeline.ValueKit.Tiles

@[expose] public section

set_option maxRecDepth 16384

noncomputable section

namespace Cert.Moe

open Idealize.ShloMosaic

/-- The activation, with the constants of its tanh form as they are written. -/
def gelu (y : EReal) : EReal :=
  y * (Ideal.ofBits .f32 0x3F000000#32 * (1 + Ideal.tanh (Ideal.ofBits .f32 0x3F4C422A#32 * (y + Ideal.ofBits .f32 0x3D372713#32 * (y * (y * y))))))

end Cert.Moe

namespace Cert.KernelIdeal.Value

open Idealize.ShloMosaic
open Cert.KernelIdeal Cert.KernelIdeal.Gen Cert.Moe

section Form

variable (κ : Elt Ideal .f32) (m₁ m₂ : FVec Ideal S1x1 .f32) (x : Vec Ideal S1x192x784 .f32) (W : Vec Ideal S384x192 .f32)
  (b₁ b₂ : Vec Ideal S1x1x192 .f32)

/-- An image's result, as the first image of a step computes it. -/
def image : FVec Ideal S1x192x784 .f32 :=
  k0_pay49 κ m₁ m₂ (k0_pay44 x) (k0_pay45 x W) (k0_pay46 b₂) (k0_pay47 x W b₁) (k0_pay48 x W b₁)

theorem image_second : k0_pay54 (k0_pay53 κ m₁ m₂ (k0_pay50 x) (k0_pay51 x W) (k0_pay52 b₁) b₂) = image κ m₁ m₂ x W b₁ b₂ := rfl
theorem image_third : k0_pay60 κ m₁ m₂ (k0_pay55 x) (k0_pay57 x W b₁) (k0_pay58 x W b₂) (k0_pay59 x W b₂) (FloatOps.ofBits .f32 0x3F800000#32)
    = image κ m₁ m₂ x W b₁ b₂ := rfl
theorem image_fourth : k0_pay1 κ m₁ m₂ (k0_pay61 x) (k0_pay62 x W) (k0_pay63 b₂) (k0_pay64 x W b₁) (k0_pay65 x W b₁)
    = image κ m₁ m₂ x W b₁ b₂ := rfl

theorem image_apply (q : Fin 192) (p : Fin 784) : image κ m₁ m₂ x W b₁ b₂ (ix3 0 q p)
    = x (ix3 0 q p)
      + gelu (∑ i : Fin 192, W (ix2 ⟨q.val, by omega⟩ i) * x (ix3 0 i p) + b₁ (ix3 0 0 q)) * (m₁ (ix2 0 0) * κ)
      + gelu (∑ i : Fin 192, W (ix2 ⟨192 + q.val, by omega⟩ i) * x (ix3 0 i p) + b₂ (ix3 0 0 q)) * (m₂ (ix2 0 0) * κ) := by
  pointwise [image, k0_pay49, k0_pay44, k0_pay45, k0_pay46, k0_pay47, k0_pay48, gelu]

end Form

/-! ### Loads at a place -/

/-- A unit load from a whole buffer reads, at `y`, the contents at the place that `y` is offset to. -/
theorem load_at {sp : Space} {S : Shape} {e : EltTy} (M : Memref sig .tc sp S e) (hM : M.IsWhole) (X : Vec Ideal S e)
    (off size : Fin S.rank → Nat) (inb) (y : (Rect.unit off size inb).shape.Idx) (i : S.Idx) (hi : ∀ a, (i a : Nat) = off a + y a) :
    M.view.readAt (Elt Ideal) (Rect.unit off size inb).toLoadRect (hM.unread X) y = X i := by
  rw [View.readAt_eq_ld, hM.read_unread]
  exact View.ld_unit_apply_of X off size inb y i hi

/-- A load of a whole buffer reads its contents. -/
theorem load_all {sp : Space} {S : Shape} {e : EltTy} (M : Memref sig .tc sp S e) (hM : M.IsWhole) (X : Vec Ideal S e)
    (off : Fin S.rank → Nat) (inb) (h : ∀ a, off a = 0) :
    M.view.readAt (Elt Ideal) (Rect.unit off S.size inb).toLoadRect (hM.unread X) = X :=
  funext fun y => load_at M hM X off S.size inb y y fun a => by rw [h a, Nat.zero_add]

/-- The `n`-th image of a block. -/
def part (n : Fin 4) (X : Vec Ideal S4x192x784 .f32) : Vec Ideal S1x192x784 .f32 := fun y => X (ix3 n (y 1) (y 2))

/-- The `e`-th expert's matrix. -/
def matOf (e : Fin 8) (X : Vec Ideal S8x192x192 .f32) : Vec Ideal S1x192x192 .f32 := fun y => X (ix3 e (y 1) (y 2))

/-- The `e`-th expert's bias. -/
def biasOf (e : Fin 8) (X : Vec Ideal S8x1x192 .f32) : Vec Ideal S1x1x192 .f32 := fun y => X (ix3 e 0 (y 2))

/-- Two experts' matrices, one above the other. -/
def stack (A B : Vec Ideal S1x192x192 .f32) : Vec Ideal S384x192 .f32 :=
  fun y => if h : (y 0).val < 192 then A (ix3 0 ⟨(y 0).val, h⟩ (y 1)) else B (ix3 0 ⟨(y 0).val - 192, by have : (y 0).val < 384 := (y 0).isLt; omega⟩ (y 1))

theorem part_load (M : Memref sig .tc .vmem S4x192x784 .f32) (hM : M.IsWhole) (X : Vec Ideal S4x192x784 .f32) (n : Fin 4)
    (off : Fin 3 → Nat) (h : off = ![n.val, 0, 0]) (inb) :
    M.view.readAt (Elt Ideal) (Rect.unit (s := S4x192x784) off S1x192x784.size inb).toLoadRect (hM.unread X) = part n X := by
  subst h
  funext y
  refine load_at M hM X _ _ inb y _ (Fin.forall_fin_succ.2 ⟨?_, Fin.forall_fin_two.2 ⟨?_, ?_⟩⟩)
  · have : (y 0).val = 0 := Nat.lt_one_iff.1 (y 0).isLt
    show n.val = n.val + (y 0).val
    omega
  · exact (Nat.zero_add _).symm
  · exact (Nat.zero_add _).symm

theorem mat_load (M : Memref sig .tc .vmem S8x192x192 .f32) (hM : M.IsWhole) (X : Vec Ideal S8x192x192 .f32) (e : Fin 8)
    (off : Fin 3 → Nat) (h : off = ![e.val, 0, 0]) (inb) :
    M.view.readAt (Elt Ideal) (Rect.unit (s := S8x192x192) off S1x192x192.size inb).toLoadRect (hM.unread X) = matOf e X := by
  subst h
  funext y
  refine load_at M hM X _ _ inb y _ (Fin.forall_fin_succ.2 ⟨?_, Fin.forall_fin_two.2 ⟨?_, ?_⟩⟩)
  · have : (y 0).val = 0 := Nat.lt_one_iff.1 (y 0).isLt
    show e.val = e.val + (y 0).val
    omega
  · exact (Nat.zero_add _).symm
  · exact (Nat.zero_add _).symm

theorem bias_load (M : Memref sig .tc .vmem S8x1x192 .f32) (hM : M.IsWhole) (X : Vec Ideal S8x1x192 .f32) (e : Fin 8)
    (off : Fin 3 → Nat) (h : off = ![e.val, 0, 0]) (inb) :
    M.view.readAt (Elt Ideal) (Rect.unit (s := S8x1x192) off S1x1x192.size inb).toLoadRect (hM.unread X) = biasOf e X := by
  subst h
  funext y
  refine load_at M hM X _ _ inb y _ (Fin.forall_fin_succ.2 ⟨?_, Fin.forall_fin_two.2 ⟨?_, ?_⟩⟩)
  · have : (y 0).val = 0 := Nat.lt_one_iff.1 (y 0).isLt
    show e.val = e.val + (y 0).val
    omega
  · have : (y 1).val = 0 := Nat.lt_one_iff.1 (y 1).isLt
    show 0 = 0 + (y 1).val
    omega
  · exact (Nat.zero_add _).symm

theorem upper_apply (A : Vec Ideal S1x192x192 .f32) (r q : Fin 192) : k0_pay11 A (ix2 r q) = A (ix3 0 r q) := by
  pointwise [k0_pay11]

/-- The scratch buffer, read back after both its halves have been stored. -/
theorem stack_load (M : Memref sig .tc .vmem S384x192 .f32) (A B : Vec Ideal S1x192x192 .f32) (U L : FVec Ideal S192x192 .f32)
    (hU : U = k0_pay11 A) (hL : L = k0_pay11 B) (inb inb' inb'') :
    M.view.readCov [(⟨Rect.unit ![192, 0] S192x192.size inb, L⟩ : View.Piece (Elt Ideal) S384x192 .f32),
        ⟨Rect.unit ![0, 0] S192x192.size inb', U⟩] (Rect.unit ![0, 0] S384x192.size inb'').toLoadRect = stack A B := by
  subst hU hL
  funext y
  have e : (Rect.unit ![0, 0] S384x192.size inb'').toLoadRect.idx y = y := by
    funext a; apply Fin.ext
    revert a
    refine Fin.forall_fin_two.2 ⟨?_, ?_⟩
    · show 0 + 1 * (y 0).val = (y 0).val
      omega
    · show 0 + 1 * (y 1).val = (y 1).val
      omega
  unfold View.readCov
  rw [View.readAt_apply, e]
  unfold stack
  have h1 : (y 0).val < 384 := (y 0).isLt
  split
  · next h =>
    rw [View.read_writes_cons_rows_of_not_mem (o := 192) (W := 192) M.view _ inb _ _ y rfl rfl (Or.inl h),
      View.read_writes_cons_rows_of_mem (o := 0) M.view _ inb' _ _ y (ix2 ⟨(y 0).val, h⟩ (y 1)) rfl (Nat.zero_add _).symm rfl]
    exact upper_apply A _ _
  · next h =>
    rw [View.read_writes_cons_rows_of_mem (o := 192) M.view _ inb _ _ y (ix2 ⟨(y 0).val - 192, by omega⟩ (y 1)) rfl
      (by show (y 0).val = 192 + ((y 0).val - 192); omega) rfl]
    exact upper_apply B _ _

end Cert.KernelIdeal.Value

end
-- ==== Proof.Body.lean ====
/- The kernel body at the extended reals: the run of its whole text on whole staging buffers. Its loads of an expert's
   matrix and bias are at the chosen expert's number, in range because a column's greatest entry is attained
   (`Column`); what the stores leave in the output block is found by the run. -/
module

public import proofs.«01_k».proof.Proof.Gen.KernelIdeal.Frame
public import proofs.«01_k».proof.Proof.Gen.KernelIdeal.Skeleton
public import proofs.«01_k».proof.Proof.Column
public import Idealize.ShloMosaic.Lib.Ring

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 2000000 in
/-- The body's run on whole buffers: the inputs end as they were, the output block with the run's pieces written, the
    four scratch buffers with theirs. -/
noncomputable def bodyRun (c : Dev nD) (i : grid0.Coords) (arg1 : Memref sig .tc .vmem S4x192x784 .f32) (harg1 : arg1.IsWhole) (arg2 : Memref sig .tc .vmem S8x192 .f32) (harg2 : arg2.IsWhole) (arg3 : Memref sig .tc .vmem S8x1 .f32) (harg3 : arg3.IsWhole) (arg4 : Memref sig .tc .vmem S8x192x192 .f32) (harg4 : arg4.IsWhole) (arg5 : Memref sig .tc .vmem S8x1x192 .f32) (harg5 : arg5.IsWhole) (arg6 : Memref sig .tc .smem S1 .f32) (harg6 : arg6.IsWhole) (arg7 : Memref sig .tc .vmem S4x192x784 .f32) (harg7 : arg7.IsWhole) (arg8 : Memref sig .tc .vmem S384x192 .f32) (harg8 : arg8.IsWhole) (arg9 : Memref sig .tc .vmem S384x192 .f32) (harg9 : arg9.IsWhole) (arg10 : Memref sig .tc .vmem S384x192 .f32) (harg10 : arg10.IsWhole) (arg11 : Memref sig .tc .vmem S384x192 .f32) (harg11 : arg11.IsWhole)
    (x0 : Vec Ideal S4x192x784 .f32) (x1 : Vec Ideal S8x192 .f32) (x2 : Vec Ideal S8x1 .f32) (x3 : Vec Ideal S8x192x192 .f32) (x4 : Vec Ideal S8x1x192 .f32) (x5 : Vec Ideal S1 .f32) :
    Σ' (L6 : List (View.Piece (Elt Ideal) S4x192x784 .f32)), Σ' (LT0 : List (View.Piece (Elt Ideal) S384x192 .f32)), Σ' (LT1 : List (View.Piece (Elt Ideal) S384x192 .f32)), Σ' (LT2 : List (View.Piece (Elt Ideal) S384x192 .f32)), { LT3 : List (View.Piece (Elt Ideal) S384x192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt Ideal) f L6) ∗ (∃ f, arg8.view.loc (c : Thread nD τ) ↦[arg8.view.set]{fullShare} arg8.view.writes (Elt Ideal) f LT0) ∗ (∃ f, arg9.view.loc (c : Thread nD τ) ↦[arg9.view.set]{fullShare} arg9.view.writes (Elt Ideal) f LT1) ∗ (∃ f, arg10.view.loc (c : Thread nD τ) ↦[arg10.view.set]{fullShare} arg10.view.writes (Elt Ideal) f LT2) ∗ (∃ f, arg11.view.loc (c : Thread nD τ) ↦[arg11.view.set]{fullShare} arg11.view.writes (Elt Ideal) f LT3)) -∗ K ⟨⟩))
          ⊢ wp frame (wpE (defs₀ (F := Ideal)) Variants.none c none) E (cc0__moe_kernel (F := Ideal) i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__moe_kernel_eq_skeleton]; unfold cc0__moe_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | ((with_reducible refine @id (k0_chk1 _) ?_); exact chk1 _ _ _) | ((with_reducible refine @id (k0_chk2 _) ?_); exact chk2 _ _ _) | ((with_reducible refine @id (k0_chk3 _) ?_); exact chk3 _ _ _) | ((with_reducible refine @id (k0_chk4 _) ?_); exact chk4 _ _ _) | ((with_reducible refine @id (k0_chk5 _) ?_); exact chk5 _ _ _) | ((with_reducible refine @id (k0_chk6 _) ?_); exact chk6 _ _ _) | ((with_reducible refine @id (k0_chk7 _) ?_); exact chk7 _ _ _) | ((with_reducible refine @id (k0_chk8 _) ?_); exact chk8 _ _ _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Value

end
-- ==== Proof.Launch.lean ====
/- The kernel's launch over the extended reals: the body's run put into the pipeline, the whole run of the program, and
   its frame. -/
module

public import proofs.«01_k».proof.Proof.Body
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-- A staging buffer of the output, through which what a run leaves there is read. -/
abbrev outView : View sig .tc .vmem S4x192x784 .f32 := (Memref.whole cc0_stg6_0 : Memref sig .tc .vmem S4x192x784 .f32).view
/-- The windows' staging buffers at a point; each is a whole buffer. -/
abbrev stg0 (t : Fin cfg0.N) : Memref sig .tc .vmem S4x192x784 .f32 := win0_0.stage (cfg0.slots t 0)
abbrev stgW0 (t : Fin cfg0.N) : (stg0 t).IsWhole := hstage0_0 ((cfg0.slots t 0).cast nbuf0_0)
abbrev stg1 (t : Fin cfg0.N) : Memref sig .tc .vmem S8x192 .f32 := win0_1.stage (cfg0.slots t 1)
abbrev stgW1 (t : Fin cfg0.N) : (stg1 t).IsWhole := hstage0_1 ((cfg0.slots t 1).cast nbuf0_1)
abbrev stg2 (t : Fin cfg0.N) : Memref sig .tc .vmem S8x1 .f32 := win0_2.stage (cfg0.slots t 2)
abbrev stgW2 (t : Fin cfg0.N) : (stg2 t).IsWhole := hstage0_2 ((cfg0.slots t 2).cast nbuf0_2)
abbrev stg3 (t : Fin cfg0.N) : Memref sig .tc .vmem S8x192x192 .f32 := win0_3.stage (cfg0.slots t 3)
abbrev stgW3 (t : Fin cfg0.N) : (stg3 t).IsWhole := hstage0_3 ((cfg0.slots t 3).cast nbuf0_3)
abbrev stg4 (t : Fin cfg0.N) : Memref sig .tc .vmem S8x1x192 .f32 := win0_4.stage (cfg0.slots t 4)
abbrev stgW4 (t : Fin cfg0.N) : (stg4 t).IsWhole := hstage0_4 ((cfg0.slots t 4).cast nbuf0_4)
abbrev stg5 (t : Fin cfg0.N) : Memref sig .tc .smem S1 .f32 := win0_5.stage (cfg0.slots t 5)
abbrev stgW5 (t : Fin cfg0.N) : (stg5 t).IsWhole := hstage0_5 ((cfg0.slots t 5).cast nbuf0_5)
abbrev stg6 (t : Fin cfg0.N) : Memref sig .tc .vmem S4x192x784 .f32 := win0_6.stage (cfg0.slots t 6)
abbrev stgW6 (t : Fin cfg0.N) : (stg6 t).IsWhole := hstage0_6 ((cfg0.slots t 6).cast nbuf0_6)
/-- The four scratch buffers: one stacked pair of matrices for each image of the step. -/
abbrev scr0 : Memref sig .tc .vmem S384x192 .f32 := Memref.whole cc0_scratch0
abbrev scr1 : Memref sig .tc .vmem S384x192 .f32 := Memref.whole cc0_scratch1
abbrev scr2 : Memref sig .tc .vmem S384x192 .f32 := Memref.whole cc0_scratch2
abbrev scr3 : Memref sig .tc .vmem S384x192 .f32 := Memref.whole cc0_scratch3

/-- The region keeps the four scratch buffers, whatever they hold, and the generator. -/
theorem region_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

variable (m : (ℓ : Loc nD τ sig) → Buf (Elt Ideal) ℓ) (ρ : Dev nD → PrngReg)
section Whole

variable (arg1 : Memref sig .tc .vmem S4x192x784 .f32) (harg1 : arg1.IsWhole) (arg2 : Memref sig .tc .vmem S8x192 .f32) (harg2 : arg2.IsWhole) (arg3 : Memref sig .tc .vmem S8x1 .f32) (harg3 : arg3.IsWhole) (arg4 : Memref sig .tc .vmem S8x192x192 .f32) (harg4 : arg4.IsWhole) (arg5 : Memref sig .tc .vmem S8x1x192 .f32) (harg5 : arg5.IsWhole) (arg6 : Memref sig .tc .smem S1 .f32) (harg6 : arg6.IsWhole) (arg7 : Memref sig .tc .vmem S4x192x784 .f32) (harg7 : arg7.IsWhole) (arg8 : Memref sig .tc .vmem S384x192 .f32) (harg8 : arg8.IsWhole) (arg9 : Memref sig .tc .vmem S384x192 .f32) (harg9 : arg9.IsWhole) (arg10 : Memref sig .tc .vmem S384x192 .f32) (harg10 : arg10.IsWhole) (arg11 : Memref sig .tc .vmem S384x192 .f32) (harg11 : arg11.IsWhole)

/-- The four stores, one for each image of the step, fill the output block. -/
theorem run_covers (c : Dev nD) (i : grid0.Coords) (x0 : Vec Ideal S4x192x784 .f32) (x1 : Vec Ideal S8x192 .f32) (x2 : Vec Ideal S8x1 .f32) (x3 : Vec Ideal S8x192x192 .f32) (x4 : Vec Ideal S8x1x192 .f32) (x5 : Vec Ideal S1 .f32) (y : S4x192x784.Idx) :
    ∃ pc ∈ (bodyRun c i arg1 harg1 arg2 harg2 arg3 harg3 arg4 harg4 arg5 harg5 arg6 harg6 arg7 harg7 arg8 harg8 arg9 harg9 arg10 harg10 arg11 harg11 x0 x1 x2 x3 x4 x5).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 x0 x1 x2 x3 x4 x5).1 S1x192x784.size (by sl_kernel_rfl) y

/-- What a run leaves in the output block. -/
def runOut (c : Dev nD) (i : grid0.Coords) (x0 : Vec Ideal S4x192x784 .f32) (x1 : Vec Ideal S8x192 .f32) (x2 : Vec Ideal S8x1 .f32) (x3 : Vec Ideal S8x192x192 .f32) (x4 : Vec Ideal S8x1x192 .f32) (x5 : Vec Ideal S1 .f32) : Vec Ideal S4x192x784 .f32 :=
  outView.read (Elt Ideal) (outView.writes (Elt Ideal) outView.junk (bodyRun c i arg1 harg1 arg2 harg2 arg3 harg3 arg4 harg4 arg5 harg5 arg6 harg6 arg7 harg7 arg8 harg8 arg9 harg9 arg10 harg10 arg11 harg11 x0 x1 x2 x3 x4 x5).1)

end Whole

/-- The output block after point `t`. -/
def outAt (c : Dev nD) (t : Fin cfg0.N) : Vec Ideal S4x192x784 .f32 :=
  runOut (stg0 t) (stgW0 t) (stg1 t) (stgW1 t) (stg2 t) (stgW2 t) (stg3 t) (stgW3 t) (stg4 t) (stgW4 t) (stg5 t) (stgW5 t) (stg6 t) (stgW6 t) scr0 (Memref.isWhole_whole _) scr1 (Memref.isWhole_whole _) scr2 (Memref.isWhole_whole _) scr3 (Memref.isWhole_whole _) c (grid0.coords t) (iblk m c 0 t) (iblk m c 1 t) (iblk m c 2 t) (iblk m c 3 t) (iblk m c 4 t) (iblk m c 5 t)

/-- The pipeline's data: the inputs' blocks stay as they are, the output's block is `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outAt m c t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- Each window after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outAt m c t) := by dsimp only [dats]

/-- Each input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Before the body at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

set_option maxHeartbeats 800000 in
/-- The body at any point turns the one into the other. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, region_eq]
  unfold outAt
  unfold runOut
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) _ _ _ _ _ _ _ _ _ _ _ _ _ _ _ _ _ _ _ _ _ _ (iblk m c 0 t) (iblk m c 1 t) (iblk m c 2 t) (iblk m c 3 t) (iblk m c 4 t) (iblk m c 5 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, ⟨%e6, H6⟩, ⟨%fT0, HS0⟩, ⟨%fT1, HS1⟩, ⟨%fT2, HS2⟩, ⟨%fT3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (run_covers _ _ _ _ _ _ _ _ _ _ _ _ _ _ _ _ _ _ _ _ _ _ c _ _ _ _ _ _ _)

/-- The launched body is the body at the point. -/
theorem defs₀_row (t : Fin cfg0.N) :
    defs₀ (F := Ideal) .tc cfg0.body (cfg0.bodyArgs t (cfg0.slots t)) = bodyAt0 t := by
  unfold defs₀; rw [Defs.onTc_tc]

/-- Hence the obligation of every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole launch, with the semaphores at zero at its end. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The whole launch: the arrays end at what the pipeline's data says. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim of the kernel's program over the extended reals. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Value

end
-- ==== Proof.Block.lean ====
/- What a step leaves in its output block: for each of its four images the image itself and its two chosen experts'
   activations, each at the gate's weight times the scale. -/
module

public import proofs.«01_k».proof.Proof.Image
public import proofs.«01_k».proof.Proof.Launch

@[expose] public section

set_option maxRecDepth 16384

noncomputable section

namespace Cert.KernelIdeal.Value

open Idealize.ShloMosaic Idealize.ShloMosaic.TcCoe
open Cert.KernelIdeal Cert.KernelIdeal.Gen Cert.Moe

theorem off1 {v : BitVec 32} {e : Fin 8} (h : v = BitVec.ofNat 32 e.val) : k0_off1 v = ![e.val, 0, 0] := by subst h; revert e; decide +kernel
theorem off2 {v : BitVec 32} {e : Fin 8} (h : v = BitVec.ofNat 32 e.val) : k0_off2 v = ![e.val, 0, 0] := by subst h; revert e; decide +kernel
theorem off3 {v : BitVec 32} {e : Fin 8} (h : v = BitVec.ofNat 32 e.val) : k0_off3 v = ![e.val, 0, 0] := by subst h; revert e; decide +kernel
theorem off4 {v : BitVec 32} {e : Fin 8} (h : v = BitVec.ofNat 32 e.val) : k0_off4 v = ![e.val, 0, 0] := by subst h; revert e; decide +kernel
theorem off5 {v : BitVec 32} {e : Fin 8} (h : v = BitVec.ofNat 32 e.val) : k0_off5 v = ![e.val, 0, 0] := by subst h; revert e; decide +kernel
theorem off6 {v : BitVec 32} {e : Fin 8} (h : v = BitVec.ofNat 32 e.val) : k0_off6 v = ![e.val, 0, 0] := by subst h; revert e; decide +kernel
theorem off7 {v : BitVec 32} {e : Fin 8} (h : v = BitVec.ofNat 32 e.val) : k0_off7 v = ![e.val, 0, 0] := by subst h; revert e; decide +kernel
theorem off8 {v : BitVec 32} {e : Fin 8} (h : v = BitVec.ofNat 32 e.val) : k0_off8 v = ![e.val, 0, 0] := by subst h; revert e; decide +kernel
theorem off9 {v : BitVec 32} {e : Fin 8} (h : v = BitVec.ofNat 32 e.val) : k0_off9 v = ![e.val, 0, 0] := by subst h; revert e; decide +kernel
theorem off10 {v : BitVec 32} {e : Fin 8} (h : v = BitVec.ofNat 32 e.val) : k0_off10 v = ![e.val, 0, 0] := by subst h; revert e; decide +kernel
theorem off11 {v : BitVec 32} {e : Fin 8} (h : v = BitVec.ofNat 32 e.val) : k0_off11 v = ![e.val, 0, 0] := by subst h; revert e; decide +kernel
theorem off12 {v : BitVec 32} {e : Fin 8} (h : v = BitVec.ofNat 32 e.val) : k0_off12 v = ![e.val, 0, 0] := by subst h; revert e; decide +kernel
theorem off13 {v : BitVec 32} {e : Fin 8} (h : v = BitVec.ofNat 32 e.val) : k0_off13 v = ![e.val, 0, 0] := by subst h; revert e; decide +kernel
theorem off14 {v : BitVec 32} {e : Fin 8} (h : v = BitVec.ofNat 32 e.val) : k0_off14 v = ![e.val, 0, 0] := by subst h; revert e; decide +kernel
theorem off15 {v : BitVec 32} {e : Fin 8} (h : v = BitVec.ofNat 32 e.val) : k0_off15 v = ![e.val, 0, 0] := by subst h; revert e; decide +kernel
theorem off16 {v : BitVec 32} {e : Fin 8} (h : v = BitVec.ofNat 32 e.val) : k0_off16 v = ![e.val, 0, 0] := by subst h; revert e; decide +kernel

variable (x0 : Vec Ideal S4x192x784 .f32) (x1 : Vec Ideal S8x192 .f32) (x2 : Vec Ideal S8x1 .f32) (x3 : Vec Ideal S8x192x192 .f32) (x4 : Vec Ideal S8x1x192 .f32) (x5 : Vec Ideal S1 .f32)

/-- An image's result at a channel and a place: the image and its two experts. -/
def result (n : Fin 4) (q : Fin 192) (p : Fin 784) : EReal :=
  x0 (ix3 n q p)
    + gelu (∑ i : Fin 192, x3 (ix3 (fst (part n x0) x1 x2) q i) * x0 (ix3 n i p) + x4 (ix3 (fst (part n x0) x1 x2) 0 q))
      * (top (wts (part n x0) x1 x2) * x5 (ix1 0))
    + gelu (∑ i : Fin 192, x3 (ix3 (snd (part n x0) x1 x2) q i) * x0 (ix3 n i p) + x4 (ix3 (snd (part n x0) x1 x2) 0 q))
      * (top (rest (wts (part n x0) x1 x2)) * x5 (ix1 0))

/-- An image's function at an image's operands is its result. -/
theorem image_result (n : Fin 4) {κ : Elt Ideal .f32} {m₁ m₂ : FVec Ideal S1x1 .f32} {x : Vec Ideal S1x192x784 .f32}
    {W : Vec Ideal S384x192 .f32} {b₁ b₂ : Vec Ideal S1x1x192 .f32} (hκ : κ = x5 (ix1 0))
    (h₁ : ∀ j, m₁ j = top (wts (part n x0) x1 x2)) (h₂ : ∀ j, m₂ j = top (rest (wts (part n x0) x1 x2)))
    (hx : x = part n x0) (hW : W = stack (matOf (fst (part n x0) x1 x2) x3) (matOf (snd (part n x0) x1 x2) x3))
    (hb₁ : b₁ = biasOf (fst (part n x0) x1 x2) x4) (hb₂ : b₂ = biasOf (snd (part n x0) x1 x2) x4) (q : Fin 192) (p : Fin 784) :
    image κ m₁ m₂ x W b₁ b₂ (ix3 0 q p) = result x0 x1 x2 x3 x4 x5 n q p := by
  rw [image_apply, h₁, h₂, hκ, hx, hW, hb₁, hb₂]
  have hu : ∀ (A B : Vec Ideal S1x192x192 .f32) (i : Fin 192), stack A B (ix2 ⟨q.val, by omega⟩ i) = A (ix3 0 q i) := fun A B i =>
    dif_pos q.isLt
  have hl : ∀ (A B : Vec Ideal S1x192x192 .f32) (i : Fin 192), stack A B (ix2 ⟨192 + q.val, by omega⟩ i) = B (ix3 0 q i) := fun A B i => by
    refine (dif_neg (by show ¬ 192 + q.val < 192; omega)).trans ?_
    exact congrArg (fun r : Fin 192 => B (ix3 0 r i)) (Fin.ext (by show 192 + q.val - 192 = q.val; omega))
  simp only [hu, hl]
  rfl

theorem wts_congr {x x' : Vec Ideal S1x192x784 .f32} {g g' : Vec Ideal S8x192 .f32} {b b' : Vec Ideal S8x1 .f32} (hx : x = x') (hg : g = g') (hb : b = b') :
    wts x g b = wts x' g' b' := by rw [hx, hg, hb]
theorem fst_congr {x x' : Vec Ideal S1x192x784 .f32} {g g' : Vec Ideal S8x192 .f32} {b b' : Vec Ideal S8x1 .f32} (hx : x = x') (hg : g = g') (hb : b = b') :
    fst x g b = fst x' g' b' := by rw [hx, hg, hb]
theorem snd_congr {x x' : Vec Ideal S1x192x784 .f32} {g g' : Vec Ideal S8x192 .f32} {b b' : Vec Ideal S8x1 .f32} (hx : x = x') (hg : g = g') (hb : b = b') :
    snd x g b = snd x' g' b' := by rw [hx, hg, hb]

/-- An image's place in its block. -/
theorem spot (n : Fin 4) (q : Fin 192) (p : Fin 784) : ∀ a : Fin 3, ((ix3 n q p : S4x192x784.Idx) a).val
    = (![n.val, 0, 0] : Fin 3 → Nat) a + ((ix3 0 q p : S1x192x784.Idx) a).val := by
  refine Fin.forall_fin_succ.2 ⟨?_, Fin.forall_fin_two.2 ⟨?_, ?_⟩⟩
  · rfl
  · exact (Nat.zero_add _).symm
  · exact (Nat.zero_add _).symm

section Run

variable (arg1 : Memref sig .tc .vmem S4x192x784 .f32) (harg1 : arg1.IsWhole) (arg2 : Memref sig .tc .vmem S8x192 .f32) (harg2 : arg2.IsWhole) (arg3 : Memref sig .tc .vmem S8x1 .f32) (harg3 : arg3.IsWhole) (arg4 : Memref sig .tc .vmem S8x192x192 .f32) (harg4 : arg4.IsWhole) (arg5 : Memref sig .tc .vmem S8x1x192 .f32) (harg5 : arg5.IsWhole) (arg6 : Memref sig .tc .smem S1 .f32) (harg6 : arg6.IsWhole) (arg7 : Memref sig .tc .vmem S4x192x784 .f32) (harg7 : arg7.IsWhole) (arg8 : Memref sig .tc .vmem S384x192 .f32) (harg8 : arg8.IsWhole) (arg9 : Memref sig .tc .vmem S384x192 .f32) (harg9 : arg9.IsWhole) (arg10 : Memref sig .tc .vmem S384x192 .f32) (harg10 : arg10.IsWhole) (arg11 : Memref sig .tc .vmem S384x192 .f32) (harg11 : arg11.IsWhole)

theorem run_image0 (c : Dev nD) (i : grid0.Coords) (q : Fin 192) (p : Fin 784) :
    outView.read (Elt Ideal) (outView.writes (Elt Ideal) outView.junk (bodyRun c i arg1 harg1 arg2 harg2 arg3 harg3 arg4 harg4 arg5 harg5 arg6 harg6 arg7 harg7 arg8 harg8 arg9 harg9 arg10 harg10 arg11 harg11 x0 x1 x2 x3 x4 x5).1) (ix3 0 q p)
      = result x0 x1 x2 x3 x4 x5 0 q p := by
  have hx := part_load arg1 harg1 x0 0 ![0, 0, 0] rfl inb_S4x192x784_S1x192x784_0_0_0
  have hg := load_all arg2 harg2 x1 ![0, 0] inb_S8x192_S8x192_0_0 (by decide)
  have hb := load_all arg3 harg3 x2 ![0, 0] inb_S8x1_S8x1_0_0 (by decide)
  have w₁ := word1 (arg1.view.readAt (Elt Ideal) (Rect.unit (s := S4x192x784) ![0, 0, 0] S1x192x784.size inb_S4x192x784_S1x192x784_0_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have w₂ := word2 (arg1.view.readAt (Elt Ideal) (Rect.unit (s := S4x192x784) ![0, 0, 0] S1x192x784.size inb_S4x192x784_S1x192x784_0_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have t₁ := top1 (arg1.view.readAt (Elt Ideal) (Rect.unit (s := S4x192x784) ![0, 0, 0] S1x192x784.size inb_S4x192x784_S1x192x784_0_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have t₂ := top2 (arg1.view.readAt (Elt Ideal) (Rect.unit (s := S4x192x784) ![0, 0, 0] S1x192x784.size inb_S4x192x784_S1x192x784_0_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have f₁ := congrArg (fun e : Fin 8 => BitVec.ofNat 32 e.val) (fst_congr hx hg hb)
  have f₂ := congrArg (fun e : Fin 8 => BitVec.ofNat 32 e.val) (snd_congr hx hg hb)
  have u := congrArg top (wts_congr hx hg hb)
  have u' := congrArg (fun w => top (rest w)) (wts_congr hx hg hb)
  refine (View.read_writes_cons_unit_of_not_mem _ _ _ _ _ _ rfl 0 (Or.inl (show 0 < 3 by decide))).trans ?_
  refine (View.read_writes_cons_unit_of_not_mem _ _ _ _ _ _ rfl 0 (Or.inl (show 0 < 2 by decide))).trans ?_
  refine (View.read_writes_cons_unit_of_not_mem _ _ _ _ _ _ rfl 0 (Or.inl (show 0 < 1 by decide))).trans ?_
  refine (View.read_writes_cons_unit_of_mem _ _ _ _ _ _ (ix3 0 q p) rfl (spot 0 q p)).trans ?_
  refine Eq.trans (congrFun (rfl) (ix3 0 q p)) (image_result x0 x1 x2 x3 x4 x5 0 ?_ (fun j => (t₁ j).trans u) (fun j => (t₂ j).trans u') hx ?_ ?_ ?_ q p)
  · exact load_at arg6 harg6 x5 ![0] S1.size inb_S1_S1_0 _ (ix1 0) (by decide)
  · exact stack_load _ _ _ _ _ (congrArg k0_pay11 (mat_load arg4 harg4 x3 _ _ (off1 (w₁.trans f₁)) _)) (congrArg k0_pay11 (mat_load arg4 harg4 x3 _ _ (off2 (w₂.trans f₂)) _)) _ _ _
  · exact bias_load arg5 harg5 x4 _ _ (off9 (w₁.trans f₁)) _
  · exact bias_load arg5 harg5 x4 _ _ (off10 (w₂.trans f₂)) _

theorem run_image1 (c : Dev nD) (i : grid0.Coords) (q : Fin 192) (p : Fin 784) :
    outView.read (Elt Ideal) (outView.writes (Elt Ideal) outView.junk (bodyRun c i arg1 harg1 arg2 harg2 arg3 harg3 arg4 harg4 arg5 harg5 arg6 harg6 arg7 harg7 arg8 harg8 arg9 harg9 arg10 harg10 arg11 harg11 x0 x1 x2 x3 x4 x5).1) (ix3 1 q p)
      = result x0 x1 x2 x3 x4 x5 1 q p := by
  have hx := part_load arg1 harg1 x0 1 ![1, 0, 0] rfl inb_S4x192x784_S1x192x784_1_0_0
  have hg := load_all arg2 harg2 x1 ![0, 0] inb_S8x192_S8x192_0_0 (by decide)
  have hb := load_all arg3 harg3 x2 ![0, 0] inb_S8x1_S8x1_0_0 (by decide)
  have w₁ := word3 (arg1.view.readAt (Elt Ideal) (Rect.unit (s := S4x192x784) ![1, 0, 0] S1x192x784.size inb_S4x192x784_S1x192x784_1_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have w₂ := word4 (arg1.view.readAt (Elt Ideal) (Rect.unit (s := S4x192x784) ![1, 0, 0] S1x192x784.size inb_S4x192x784_S1x192x784_1_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have t₁ := top3 (arg1.view.readAt (Elt Ideal) (Rect.unit (s := S4x192x784) ![1, 0, 0] S1x192x784.size inb_S4x192x784_S1x192x784_1_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have t₂ := top4 (arg1.view.readAt (Elt Ideal) (Rect.unit (s := S4x192x784) ![1, 0, 0] S1x192x784.size inb_S4x192x784_S1x192x784_1_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have f₁ := congrArg (fun e : Fin 8 => BitVec.ofNat 32 e.val) (fst_congr hx hg hb)
  have f₂ := congrArg (fun e : Fin 8 => BitVec.ofNat 32 e.val) (snd_congr hx hg hb)
  have u := congrArg top (wts_congr hx hg hb)
  have u' := congrArg (fun w => top (rest w)) (wts_congr hx hg hb)
  refine (View.read_writes_cons_unit_of_not_mem _ _ _ _ _ _ rfl 0 (Or.inl (show 1 < 3 by decide))).trans ?_
  refine (View.read_writes_cons_unit_of_not_mem _ _ _ _ _ _ rfl 0 (Or.inl (show 1 < 2 by decide))).trans ?_
  refine (View.read_writes_cons_unit_of_mem _ _ _ _ _ _ (ix3 0 q p) rfl (spot 1 q p)).trans ?_
  refine Eq.trans (congrFun (image_second _ _ _ _ _ _ _) (ix3 0 q p)) (image_result x0 x1 x2 x3 x4 x5 1 ?_ (fun j => (t₁ j).trans u) (fun j => (t₂ j).trans u') hx ?_ ?_ ?_ q p)
  · exact load_at arg6 harg6 x5 ![0] S1.size inb_S1_S1_0 _ (ix1 0) (by decide)
  · exact stack_load _ _ _ _ _ (congrArg k0_pay11 (mat_load arg4 harg4 x3 _ _ (off3 (w₁.trans f₁)) _)) (congrArg k0_pay11 (mat_load arg4 harg4 x3 _ _ (off4 (w₂.trans f₂)) _)) _ _ _
  · exact bias_load arg5 harg5 x4 _ _ (off11 (w₁.trans f₁)) _
  · exact bias_load arg5 harg5 x4 _ _ (off12 (w₂.trans f₂)) _

theorem run_image2 (c : Dev nD) (i : grid0.Coords) (q : Fin 192) (p : Fin 784) :
    outView.read (Elt Ideal) (outView.writes (Elt Ideal) outView.junk (bodyRun c i arg1 harg1 arg2 harg2 arg3 harg3 arg4 harg4 arg5 harg5 arg6 harg6 arg7 harg7 arg8 harg8 arg9 harg9 arg10 harg10 arg11 harg11 x0 x1 x2 x3 x4 x5).1) (ix3 2 q p)
      = result x0 x1 x2 x3 x4 x5 2 q p := by
  have hx := part_load arg1 harg1 x0 2 ![2, 0, 0] rfl inb_S4x192x784_S1x192x784_2_0_0
  have hg := load_all arg2 harg2 x1 ![0, 0] inb_S8x192_S8x192_0_0 (by decide)
  have hb := load_all arg3 harg3 x2 ![0, 0] inb_S8x1_S8x1_0_0 (by decide)
  have w₁ := word5 (arg1.view.readAt (Elt Ideal) (Rect.unit (s := S4x192x784) ![2, 0, 0] S1x192x784.size inb_S4x192x784_S1x192x784_2_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have w₂ := word6 (arg1.view.readAt (Elt Ideal) (Rect.unit (s := S4x192x784) ![2, 0, 0] S1x192x784.size inb_S4x192x784_S1x192x784_2_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have t₁ := top5 (arg1.view.readAt (Elt Ideal) (Rect.unit (s := S4x192x784) ![2, 0, 0] S1x192x784.size inb_S4x192x784_S1x192x784_2_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have t₂ := top6 (arg1.view.readAt (Elt Ideal) (Rect.unit (s := S4x192x784) ![2, 0, 0] S1x192x784.size inb_S4x192x784_S1x192x784_2_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have f₁ := congrArg (fun e : Fin 8 => BitVec.ofNat 32 e.val) (fst_congr hx hg hb)
  have f₂ := congrArg (fun e : Fin 8 => BitVec.ofNat 32 e.val) (snd_congr hx hg hb)
  have u := congrArg top (wts_congr hx hg hb)
  have u' := congrArg (fun w => top (rest w)) (wts_congr hx hg hb)
  refine (View.read_writes_cons_unit_of_not_mem _ _ _ _ _ _ rfl 0 (Or.inl (show 2 < 3 by decide))).trans ?_
  refine (View.read_writes_cons_unit_of_mem _ _ _ _ _ _ (ix3 0 q p) rfl (spot 2 q p)).trans ?_
  refine Eq.trans (congrFun (image_third _ _ _ _ _ _ _) (ix3 0 q p)) (image_result x0 x1 x2 x3 x4 x5 2 ?_ (fun j => (t₁ j).trans u) (fun j => (t₂ j).trans u') hx ?_ ?_ ?_ q p)
  · exact load_at arg6 harg6 x5 ![0] S1.size inb_S1_S1_0 _ (ix1 0) (by decide)
  · exact stack_load _ _ _ _ _ (congrArg k0_pay11 (mat_load arg4 harg4 x3 _ _ (off5 (w₁.trans f₁)) _)) (congrArg k0_pay11 (mat_load arg4 harg4 x3 _ _ (off6 (w₂.trans f₂)) _)) _ _ _
  · exact bias_load arg5 harg5 x4 _ _ (off13 (w₁.trans f₁)) _
  · exact bias_load arg5 harg5 x4 _ _ (off14 (w₂.trans f₂)) _

theorem run_image3 (c : Dev nD) (i : grid0.Coords) (q : Fin 192) (p : Fin 784) :
    outView.read (Elt Ideal) (outView.writes (Elt Ideal) outView.junk (bodyRun c i arg1 harg1 arg2 harg2 arg3 harg3 arg4 harg4 arg5 harg5 arg6 harg6 arg7 harg7 arg8 harg8 arg9 harg9 arg10 harg10 arg11 harg11 x0 x1 x2 x3 x4 x5).1) (ix3 3 q p)
      = result x0 x1 x2 x3 x4 x5 3 q p := by
  have hx := part_load arg1 harg1 x0 3 ![3, 0, 0] rfl inb_S4x192x784_S1x192x784_3_0_0
  have hg := load_all arg2 harg2 x1 ![0, 0] inb_S8x192_S8x192_0_0 (by decide)
  have hb := load_all arg3 harg3 x2 ![0, 0] inb_S8x1_S8x1_0_0 (by decide)
  have w₁ := word7 (arg1.view.readAt (Elt Ideal) (Rect.unit (s := S4x192x784) ![3, 0, 0] S1x192x784.size inb_S4x192x784_S1x192x784_3_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have w₂ := word8 (arg1.view.readAt (Elt Ideal) (Rect.unit (s := S4x192x784) ![3, 0, 0] S1x192x784.size inb_S4x192x784_S1x192x784_3_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have t₁ := top7 (arg1.view.readAt (Elt Ideal) (Rect.unit (s := S4x192x784) ![3, 0, 0] S1x192x784.size inb_S4x192x784_S1x192x784_3_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have t₂ := top8 (arg1.view.readAt (Elt Ideal) (Rect.unit (s := S4x192x784) ![3, 0, 0] S1x192x784.size inb_S4x192x784_S1x192x784_3_0_0).toLoadRect (harg1.unread x0))
    (arg2.view.readAt (Elt Ideal) (Rect.unit ![0, 0] S8x192.size inb_S8x192_S8x192_0_0).toLoadRect (harg2.unread x1))
    (arg3.view.readAt (Elt Ideal) (Rect.unit ![0, 0] S8x1.size inb_S8x1_S8x1_0_0).toLoadRect (harg3.unread x2))
  have f₁ := congrArg (fun e : Fin 8 => BitVec.ofNat 32 e.val) (fst_congr hx hg hb)
  have f₂ := congrArg (fun e : Fin 8 => BitVec.ofNat 32 e.val) (snd_congr hx hg hb)
  have u := congrArg top (wts_congr hx hg hb)
  have u' := congrArg (fun w => top (rest w)) (wts_congr hx hg hb)
  refine (View.read_writes_cons_unit_of_mem _ _ _ _ _ _ (ix3 0 q p) rfl (spot 3 q p)).trans ?_
  refine Eq.trans (congrFun (image_fourth _ _ _ _ _ _ _) (ix3 0 q p)) (image_result x0 x1 x2 x3 x4 x5 3 ?_ (fun j => (t₁ j).trans u) (fun j => (t₂ j).trans u') hx ?_ ?_ ?_ q p)
  · exact load_at arg6 harg6 x5 ![0] S1.size inb_S1_S1_0 _ (ix1 0) (by decide)
  · exact stack_load _ _ _ _ _ (congrArg k0_pay11 (mat_load arg4 harg4 x3 _ _ (off7 (w₁.trans f₁)) _)) (congrArg k0_pay11 (mat_load arg4 harg4 x3 _ _ (off8 (w₂.trans f₂)) _)) _ _ _
  · exact bias_load arg5 harg5 x4 _ _ (off15 (w₁.trans f₁)) _
  · exact bias_load arg5 harg5 x4 _ _ (off16 (w₂.trans f₂)) _

end Run

/-- The output block after point `t`, at every image. -/
theorem outAt_apply (m : (ℓ : Loc nD τ sig) → Buf (Elt Ideal) ℓ) (c : Dev nD) (t : Fin cfg0.N) (n : Fin 4) (q : Fin 192) (p : Fin 784) :
    outAt m c t (ix3 n q p)
      = result (iblk m c 0 t) (iblk m c 1 t) (iblk m c 2 t) (iblk m c 3 t) (iblk m c 4 t) (iblk m c 5 t) n q p := by
  unfold outAt runOut
  match n with
  | 0 => exact run_image0 _ _ _ _ _ _ _ _ _ _ _ _ _ _ _ _ _ _ _ _ _ _ _ _ _ _ _ _ _ _ q p
  | 1 => exact run_image1 _ _ _ _ _ _ _ _ _ _ _ _ _ _ _ _ _ _ _ _ _ _ _ _ _ _ _ _ _ _ q p
  | 2 => exact run_image2 _ _ _ _ _ _ _ _ _ _ _ _ _ _ _ _ _ _ _ _ _ _ _ _ _ _ _ _ _ _ q p
  | 3 => exact run_image3 _ _ _ _ _ _ _ _ _ _ _ _ _ _ _ _ _ _ _ _ _ _ _ _ _ _ _ _ _ _ q p

end Cert.KernelIdeal.Value

end
-- ==== Proof.Array.lean ====
/- The kernel's result array: every step's block is the block of one function of the arguments. -/
module

public import proofs.«01_k».proof.Proof.Block
public import Idealize.ShloMosaic.Lib.Pipeline.Value
public import Idealize.ShloMosaic.Lib.Pipeline.ValueKit.Point
public import Idealize.ShloMosaic.Lib.Claim

@[expose] public section

set_option maxRecDepth 16384

noncomputable section

namespace Cert.KernelIdeal.Value

open Idealize.ShloMosaic Idealize.ShloMosaic.TcCoe
open Idealize.ShloMosaic.Pipeline (Dat Cfg Window)
open Cert.KernelIdeal Cert.KernelIdeal.Gen Cert.Moe

/-- One image of the batch. -/
def imgOf (X : FVec Ideal S16x192x784 .f32) (n : Fin 16) : Vec Ideal S1x192x784 .f32 := fun y => X (ix3 n (y 1) (y 2))

/-- The result at an image, a channel and a place: the image there and its two experts' shares. -/
def total (X : FVec Ideal S16x192x784 .f32) (g : FVec Ideal S8x192 .f32) (b : FVec Ideal S8x1 .f32) (ew : FVec Ideal S8x192x192 .f32)
    (eb : FVec Ideal S8x1x192 .f32) (k : FVec Ideal S1 .f32) (n : Fin 16) (q : Fin 192) (p : Fin 784) : EReal :=
  X (ix3 n q p)
    + gelu (∑ i : Fin 192, ew (ix3 (fst (imgOf X n) g b) q i) * X (ix3 n i p) + eb (ix3 (fst (imgOf X n) g b) 0 q))
      * (top (wts (imgOf X n) g b) * k (ix1 0))
    + gelu (∑ i : Fin 192, ew (ix3 (snd (imgOf X n) g b) q i) * X (ix3 n i p) + eb (ix3 (snd (imgOf X n) g b) 0 q))
      * (top (rest (wts (imgOf X n) g b)) * k (ix1 0))

/-- The windows' blocks: the `t`-th four images, everything else whole. -/
theorem idx : ∀ t : Fin cfg0.N, win0_0.index t = ![t.val, 0, 0] ∧ win0_1.index t = ![0, 0] ∧ win0_2.index t = ![0, 0]
    ∧ win0_3.index t = ![0, 0, 0] ∧ win0_4.index t = ![0, 0, 0] ∧ win0_5.index t = ![0] ∧ win0_6.index t = ![t.val, 0, 0] ∧ t.val < 4 :=
  (by decide +kernel : ∀ t : Fin grid0.N, _)

variable (m : (ℓ : Loc nD τ sig) → Buf (Elt Ideal) ℓ) (c : Dev nD)

theorem blk1 (t : Fin cfg0.N) : iblk m c 1 t = V m c (Pipeline.arrRef spec0 1) := by blk_ext! [iblk, idx t]
theorem blk2 (t : Fin cfg0.N) : iblk m c 2 t = V m c (Pipeline.arrRef spec0 2) := by blk_ext! [iblk, idx t]
theorem blk3 (t : Fin cfg0.N) : iblk m c 3 t = V m c (Pipeline.arrRef spec0 3) := by blk_ext! [iblk, idx t]
theorem blk4 (t : Fin cfg0.N) : iblk m c 4 t = V m c (Pipeline.arrRef spec0 4) := by blk_ext! [iblk, idx t]
theorem blk5 (t : Fin cfg0.N) : iblk m c 5 t = V m c (Pipeline.arrRef spec0 5) := by blk_ext! [iblk, idx t]

/-- The result array of the pipeline. -/
def whole : FVec Ideal S16x192x784 .f32 := fun j =>
  total (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (j 0) (j 1) (j 2)

/-- An image of a step's block is an image of the batch. -/
theorem blk0 (t : Fin cfg0.N) (n : Fin 4) (h : t.val * 4 + n.val < 16) (q : Fin 192) (p : Fin 784) :
    (iblk m c 0 t : Vec Ideal S4x192x784 .f32) (ix3 n q p) = (V m c (Pipeline.arrRef spec0 0) : FVec Ideal S16x192x784 .f32) (ix3 ⟨t.val * 4 + n.val, h⟩ q p) := by
  blk_ext [iblk, idx t]

theorem part_blk0 (t : Fin cfg0.N) (n : Fin 4) (h : t.val * 4 + n.val < 16) :
    part n (iblk m c 0 t) = imgOf (V m c (Pipeline.arrRef spec0 0)) ⟨t.val * 4 + n.val, h⟩ :=
  funext fun y => blk0 m c t n h (y 1) (y 2)

/-- What a step computes at a place of its block is the whole's value there. -/
theorem point (t : Fin cfg0.N) (n : Fin 4) (h : t.val * 4 + n.val < 16) (q : Fin 192) (p : Fin 784) :
    outAt m c t (ix3 n q p) = whole m c (ix3 ⟨t.val * 4 + n.val, h⟩ q p) := by
  rw [outAt_apply, blk1, blk2, blk3, blk4, blk5]
  unfold result
  rw [part_blk0 m c t n h]
  simp only [blk0 m c t n h]
  rfl

theorem final : (dats m 0 c).arrAt 6 (cfgs 0).N = whole m c := by
  refine (dats m 0 c).arrAt_eq_of_covers 6 _ (by decide +kernel) fun t _ y => ?_
  blk_simp
  rw [after0_6]
  have h : t.val * 4 + (y 0).val < 16 := by have := (idx t).2.2.2.2.2.2.2; have := (y 0).isLt; simp at this; omega
  have hy : y = ix3 (y 0) (y 1) (y 2) := by funext a; fin_cases a <;> rfl
  refine (congrArg (outAt m c t) hy).trans ((point m c t (y 0) h (y 1) (y 2)).trans (congrArg (whole m c) ?_))
  blk_ext! [idx t]

end Cert.KernelIdeal.Value

end
-- ==== Proof.Gate.lean ====
/- The gate: the kernel's logits and weights of an image are the reference's, and with a finite greatest logit the weights are nonnegative. -/
module

public import proofs.«01_k».proof.Proof.Column
public import proofs.«01_k».proof.Proof.Gen.ReferenceIdeal.Run
public import proofs.«01_k».proof.Pre_gate_finite
public import Idealize.ShloMosaic.Lib.Pointwise

@[expose] public section

set_option maxRecDepth 16384

noncomputable section

namespace Cert.ReferenceIdeal.Value

open Idealize.ShloMosaic Idealize.ShloMosaic.TcCoe
open Cert.ReferenceIdeal Cert.ReferenceIdeal.Gen Cert.Moe

/-- The reference's logits. -/
def logits (X : FVec Ideal S16x192x28x28 .f32) (W : FVec Ideal S192x8 .f32) (b : FVec Ideal S8 .f32) : FVec Ideal S16x8 .f32 :=
  addf (Host.dotGeneral dot_S16x192_S192x8_S16x8_1_0_0_1_n_n none (Host.divf (Host.reduceAdd X (constant S_ .f32 0x00000000#32) reducesTo_S16x192x28x28_S16x192_d2_3 h_S_) (broadcastInDim S16x192 ![] bcast_S_S16x192 (constant S_ .f32 0x44440000#32))) W)
    (broadcastInDim S16x8 ![0, 1] bcast_S1x8_S16x8_0_1 (broadcastInDim S1x8 ![1] bcast_S8_S1x8_1 b))

/-- The greatest logit of every image. -/
def greatest (f : FVec Ideal S16x8 .f32) : FVec Ideal S16 .f32 :=
  Host.reduce FloatOps.maximumf f (constant S_ .f32 0xFF800000#32) reducesTo_S16x8_S16_d1 h_S_

/-- The exponentials of the logits' differences to the greatest. -/
def exps (f : FVec Ideal S16x8 .f32) : FVec Ideal S16x8 .f32 :=
  Host.exp (subf f (broadcastInDim S16x8 ![0, 1] bcast_S16x1_S16x8_0_1 (broadcastInDim S16x1 ![0] bcast_S16_S16x1_0 (maximumf (broadcastInDim S16 ![] bcast_S_S16 (constant S_ .f32 0xFF800000#32)) (greatest f)))))

/-- The reference's softmax. -/
def shares (f : FVec Ideal S16x8 .f32) : FVec Ideal S16x8 .f32 :=
  Host.divf (exps f) (broadcastInDim S16x8 ![0, 1] bcast_S16x1_S16x8_0_1 (broadcastInDim S16x1 ![0] bcast_S16_S16x1_0 (Host.reduceAdd (exps f) (constant S_ .f32 0x00000000#32) reducesTo_S16x8_S16_d1 h_S_)))

theorem logits_apply (X W b) (n : Fin 16) (e : Fin 8) : logits X W b (ix2 n e)
    = ∑ i : Fin 192, Ideal.div (∑ r : Fin 28, ∑ s : Fin 28, X (ix4 n i r s)) (Ideal.ofBits .f32 0x44440000#32) * W (ix2 i e) + b (ix1 e) := by
  pointwise [logits]

theorem greatest_apply (f) (n : Fin 16) : greatest f (ix1 n) = top fun e => f (ix2 n e) := by
  pointwise [greatest, Cert.KernelIdeal.Value.neg_inf]
  exact Cert.KernelIdeal.Value.fold_max_bot _

theorem exps_apply (f) (n : Fin 16) (e : Fin 8) : exps f (ix2 n e) = Ideal.exp (f (ix2 n e) - top fun e => f (ix2 n e)) := by
  pointwise [exps, greatest_apply, Cert.KernelIdeal.Value.neg_inf]
  rw [max_eq_right bot_le]

theorem shares_apply (f) (n : Fin 16) (e : Fin 8) : shares f (ix2 n e) = Cert.KernelIdeal.Value.soft (fun e => f (ix2 n e)) e := by
  pointwise [shares, exps_apply]
  rfl

variable (V0 : Valuation τ sig (Elt Ideal))

theorem res_shares : res_main_v17 V0 = shares (logits (V0 (Proc.devRef .tc main_arg0)) (V0 (Proc.devRef .tc main_arg2)) (V0 (Proc.devRef .tc main_arg3))) := rfl

/-- A sum over the places of an image, by row and column. -/
theorem sum_places (f : Fin 28 → Fin 28 → EReal) :
    ∑ p : Fin 784, f ⟨p.val / 28, by omega⟩ ⟨p.val % 28, by omega⟩ = ∑ r : Fin 28, ∑ s : Fin 28, f r s := by
  rw [← Fintype.sum_prod_type']
  exact Fintype.sum_equiv (finProdFinEquiv (m := 28) (n := 28)).symm (fun p => f ⟨p.val / 28, by omega⟩ ⟨p.val % 28, by omega⟩) (fun x => f x.1 x.2) fun p => rfl

/-- The kernel's column of logits is the reference's row. -/
theorem col_eq (X : FVec Ideal S16x192x28x28 .f32) (W : FVec Ideal S192x8 .f32) (b : FVec Ideal S8 .f32) (n : Fin 16) (h h' h'') :
    Cert.KernelIdeal.Value.col (Cert.KernelIdeal.Gen.k0_pay13 (F := Ideal)
        (fun y => (shapeCast Cert.KernelIdeal.S16x192x784 X h : FVec Ideal Cert.KernelIdeal.S16x192x784 .f32) (ix3 n (y 1) (y 2)))
        (transpose Cert.KernelIdeal.S8x192 [1, 0] W h') (shapeCast Cert.KernelIdeal.S8x1 b h''))
      = fun e => logits X W b (ix2 n e) := by
  funext e
  rw [logits_apply]
  unfold Cert.KernelIdeal.Value.col
  pointwise [Cert.KernelIdeal.Gen.k0_pay13]
  refine congrArg (· + _) (Finset.sum_congr rfl fun i _ => ?_)
  rw [mul_comm, ← sum_places fun r s => X (ix4 n i r s)]

/-- The condition on the arguments: every image's greatest logit is finite. -/
def Finite (X : FVec Ideal S16x192x28x28 .f32) (W : FVec Ideal S192x8 .f32) (b : FVec Ideal S8 .f32) : Prop :=
  ∀ n : Fin 16, (⊥ < top fun e => logits X W b (ix2 n e)) ∧ (top fun e => logits X W b (ix2 n e)) < ⊤

end Cert.ReferenceIdeal.Value

namespace Cert.Pre_gate_finite.Value

open Idealize.ShloMosaic Cert.Moe

/-- The condition's shape facts are the reference's. -/
theorem facts : Cert.Pre_gate_finite.Facts :=
  ⟨Cert.ReferenceIdeal.Gen.reducesTo_S16x192x28x28_S16x192_d2_3, Cert.ReferenceIdeal.Gen.h_S_, Cert.ReferenceIdeal.Gen.bcast_S_S16x192,
    Cert.ReferenceIdeal.Gen.bcast_S8_S1x8_1, Cert.ReferenceIdeal.Gen.bcast_S1x8_S16x8_0_1, Cert.ReferenceIdeal.Gen.reducesTo_S16x8_S16_d1,
    Cert.ReferenceIdeal.Gen.bcast_S_S16, Cert.ReferenceIdeal.Gen.dot_S16x192_S192x8_S16x8_1_0_0_1_n_n_wf⟩

theorem pos_inf : Ideal.ofBits .f32 0x7F800000#32 = ⊤ := by simp [Ideal.ofBits, Ideal.ieee]

theorem of_bits (p q : Prop) [Decidable p] [Decidable q] (h : IntOp.andi (BitVec.ofBool (decide p)) (BitVec.ofBool (decide q)) = 1#1) : p ∧ q := by
  by_cases hp : p <;> by_cases hq : q <;> simp [hp, hq, IntOp.andi] at h ⊢

/-- The printed condition says the greatest logits are finite. -/
theorem finite (X k W b ew eb) (h : @Cert.Pre_gate_finite.fn facts Ideal _ X k W b ew eb = fun _ => 1#1) :
    Cert.ReferenceIdeal.Value.Finite X W b := by
  intro n
  have hn := congrFun h (ix1 n)
  have e : @Cert.Pre_gate_finite.fn facts Ideal _ X k W b ew eb
      = andi (cmpf .ogt (Cert.ReferenceIdeal.Value.greatest (Cert.ReferenceIdeal.Value.logits X W b))
          (broadcastInDim Cert.ReferenceIdeal.S16 ![] Cert.ReferenceIdeal.Gen.bcast_S_S16 (constant Cert.ReferenceIdeal.S_ .f32 0xFF800000#32)))
        (cmpf .olt (Cert.ReferenceIdeal.Value.greatest (Cert.ReferenceIdeal.Value.logits X W b))
          (broadcastInDim Cert.ReferenceIdeal.S16 ![] Cert.ReferenceIdeal.Gen.bcast_S_S16 (constant Cert.ReferenceIdeal.S_ .f32 0x7F800000#32))) := rfl
  rw [e] at hn
  pointwise [Cert.ReferenceIdeal.Value.greatest_apply, Cert.KernelIdeal.Value.neg_inf, pos_inf] at hn
  exact of_bits _ _ hn

end Cert.Pre_gate_finite.Value

namespace Cert.Moe

open Idealize.ShloMosaic

/-- Weights of logits with a finite greatest are nonnegative. -/
theorem soft_nonneg (l : Fin 8 → EReal) (h : ⊥ < top l) (h' : top l < ⊤) (e : Fin 8) : 0 ≤ Cert.KernelIdeal.Value.soft l e := by
  have hexp : ∀ x : EReal, 0 ≤ Ideal.exp x := fun x => by
    induction x using EReal.rec with
    | bot => exact le_refl _
    | coe r => exact EReal.coe_nonneg.2 (Real.exp_pos r).le
    | top => exact OrderTop.le_top (0 : EReal)
  have hone : (1 : EReal) ≤ ∑ i : Fin 8, Ideal.exp (l i - top l) := by
    obtain ⟨i, hi⟩ := top_mem l
    have h1 : Ideal.exp (l i - top l) = 1 := by
      rw [hi, EReal.sub_self h'.ne h.ne']
      show ((Real.exp 0 : ℝ) : EReal) = 1
      rw [Real.exp_zero]; rfl
    rw [← h1]
    exact Finset.single_le_sum (f := fun i => Ideal.exp (l i - top l)) (fun j _ => hexp _) (Finset.mem_univ i)
  have hpos : (0 : EReal) < ∑ i : Fin 8, Ideal.exp (l i - top l) := lt_of_lt_of_le zero_lt_one hone
  unfold Cert.KernelIdeal.Value.soft Ideal.div
  rw [if_neg hpos.ne']
  exact mul_nonneg (hexp _) (EReal.inv_nonneg_of_nonneg hpos.le)

end Cert.Moe

end
-- ==== Proof.Pick.lean ====
/- The reference's top two of every image's eight weights are the kernel's two choices, and the table it scatters them into. -/
module

public import proofs.«01_k».proof.Proof.Choice
public import proofs.«01_k».proof.Proof.Gen.ReferenceIdeal
public import Idealize.ShloMosaic.Lib.Pointwise
public import Idealize.ShloMosaic.Lib.SortFacts
public import Idealize.ShloMosaic.Lib.ScatterToDense.RefScatter

@[expose] public section

set_option maxRecDepth 16384

noncomputable section

namespace Cert.Moe

open Idealize.ShloMosaic

/-- Greater first. -/
def ahead (w : Fin 8 → EReal) (a b : Fin 8) : Bool := decide (w b < w a)

theorem insert_before (w : Fin 8 → EReal) (a : Fin 8) (l : List (Fin 8)) (h : l.Pairwise (Before w)) (ha : ∀ b ∈ l, a < b) :
    (insertBefore (ahead w) a l).Pairwise (Before w) := by
  induction l with
  | nil => exact List.pairwise_singleton _ _
  | cons b l ih =>
    rw [List.pairwise_cons] at h
    unfold insertBefore
    split
    · rename_i hb
      have hb : w a < w b := of_decide_eq_true hb
      refine List.pairwise_cons.2 ⟨fun c hc => ?_, ih h.2 fun c hc => ha c (List.mem_cons_of_mem _ hc)⟩
      rcases List.mem_cons.1 ((perm_insertBefore _ a l).mem_iff.1 hc) with rfl | hc
      · exact Or.inl hb
      · exact h.1 c hc
    · rename_i hb
      have hb : w b ≤ w a := not_lt.1 fun h => hb (decide_eq_true h)
      refine List.pairwise_cons.2 ⟨fun c hc => ?_, List.pairwise_cons.2 h⟩
      have hle : w c ≤ w a := by
        rcases List.mem_cons.1 hc with rfl | hc'
        · exact hb
        · rcases h.1 c hc' with h' | h'
          · exact h'.le.trans hb
          · exact h'.1.symm.le.trans hb
      rcases hle.lt_or_eq with h' | h'
      · exact Or.inl h'
      · exact Or.inr ⟨h'.symm, ha c hc⟩

theorem sort_before (w : Fin 8 → EReal) (l : List (Fin 8)) (h : l.Pairwise (· < ·)) :
    (stableSort (ahead w) l).Pairwise (Before w) := by
  induction l with
  | nil => exact List.Pairwise.nil
  | cons a l ih =>
    rw [List.pairwise_cons] at h
    exact insert_before w a _ (ih h.2) fun b hb => h.1 b ((perm_stableSort _ l).mem_iff.1 hb)

/-- The place of the `k`-th greatest of eight, ties in order. -/
def nth (w : Fin 8 → EReal) (k : Fin 8) : Fin 8 := sortedFrom (ahead w) k

theorem nth_before (w : Fin 8 → EReal) (i j : Fin 8) (h : i < j) : Before w (nth w i) (nth w j) := by
  have hp : ∀ a b : Fin (sortPositions 8 (ahead w)).length, a < b →
      Before w ((sortPositions 8 (ahead w)).get a) ((sortPositions 8 (ahead w)).get b) :=
    List.pairwise_iff_get.1 (sort_before w (List.finRange 8) (List.pairwise_lt_finRange 8))
  unfold nth sortedFrom
  exact hp _ _ (by simp only [Fin.lt_def, Fin.val_cast]; exact h)

/-- The first two are the two choices. -/
theorem nth_two (w : Fin 8 → EReal) (hw : ∀ e, 0 ≤ w e) : nth w 0 = arg w ∧ nth w 1 = arg (rest w) := by
  refine choice_unique hw (fun h => absurd (sortedFrom_injective _ h) (by decide)) (fun e he => ?_) (fun e he he' => ?_)
  · obtain ⟨k, rfl⟩ := sortedFrom_surjective (ahead w) e
    exact nth_before w 0 k (Fin.pos_iff_ne_zero.2 fun h => he (by rw [h]; rfl))
  · obtain ⟨k, rfl⟩ := sortedFrom_surjective (ahead w) e
    refine nth_before w 1 k ?_
    have h0 : k ≠ 0 := fun h => he (by rw [h]; rfl)
    have h1 : k ≠ 1 := fun h => he' (by rw [h]; rfl)
    exact (by decide : ∀ k : Fin 8, k ≠ 0 → k ≠ 1 → 1 < k) k h0 h1

end Cert.Moe

namespace Cert.ReferenceIdeal.Value

open Idealize.ShloMosaic Idealize.ShloMosaic.TcCoe
open Cert.ReferenceIdeal Cert.ReferenceIdeal.Gen Cert.Moe

/-- The two greatest weights of every image, with their experts. -/
def best (w : FVec Ideal S16x8 .f32) : FVec Ideal S16x2 .f32 × IVec S16x2 32 :=
  Host.topK S16x2 1 (FloatOps.cmpfTotal .gt) w sliceFits_S16x8_S16x2

/-- An image's row of weights. -/
def row (w : FVec Ideal S16x8 .f32) (n : Fin 16) (e : Fin 8) : EReal := w (ix2 n e)

/-- One of the first two places of eight. -/
def two (k : Fin 2) : Fin 8 := ⟨k.val, by omega⟩

theorem along_eq (n : Fin 16) (a b : Fin 8) : (ix2 n a : S16x8.Idx).along 1 b = ix2 n b := by
  funext x; fin_cases x <;> rfl

theorem ahead_eq (w : FVec Ideal S16x8 .f32) (n : Fin 16) (a : Fin 8) :
    (fun k k' : Fin 8 => (FloatOps.cmpfTotal (F := Ideal) (φ := .f32) .gt (w ((ix2 n a : S16x8.Idx).along 1 k)) (w ((ix2 n a : S16x8.Idx).along 1 k')) == 1#1))
      = ahead (row w n) := by
  funext k k'
  rw [along_eq, along_eq]
  show (BitVec.ofBool (decide (w (ix2 n k') < w (ix2 n k))) == 1#1) = decide (w (ix2 n k') < w (ix2 n k))
  cases decide (w (ix2 n k') < w (ix2 n k)) <;> rfl

/-- The comparisons of a row, as the sort makes them, order its places as the row's weights do. -/
theorem sorted_eq (w : FVec Ideal S16x8 .f32) (n : Fin 16) (a : Fin 8) :
    sortedFrom (n := 8) (fun k k' : Fin 8 => (FloatOps.cmpfTotal (F := Ideal) (φ := .f32) .gt (w ((ix2 n a : S16x8.Idx).along 1 k)) (w ((ix2 n a : S16x8.Idx).along 1 k')) == 1#1)) a
      = nth (row w n) a := congrArg (fun f => sortedFrom (n := 8) f a) (ahead_eq w n a)

theorem slice_idx {α : Type} (y : S16x8.Idx → α) (n : Fin 16) (k : Fin 2) :
    extractStridedSlice S16x2 (fun _ => 0) y sliceFits_S16x8_S16x2 (ix2 n k) = y (ix2 n (two k)) := by
  refine congrArg y ?_
  funext x
  fin_cases x <;> exact Fin.ext (Nat.zero_add _)

/-- The place an element of the sorted rows comes from. -/
def source (w : FVec Ideal S16x8 .f32) (j : S16x8.Idx) : Fin 8 :=
  sortedFrom (n := 8) (fun k k' : Fin 8 => (FloatOps.cmpfTotal (F := Ideal) (φ := .f32) .gt (w (j.along 1 k)) (w (j.along 1 k')) == 1#1)) (j 1)

theorem source_eq (w : FVec Ideal S16x8 .f32) (n : Fin 16) (a : Fin 8) : source w (ix2 n a) = nth (row w n) a := sorted_eq w n a

theorem best_value (w : FVec Ideal S16x8 .f32) (n : Fin 16) (k : Fin 2) : (best w).1 (ix2 n k) = row w n (nth (row w n) (two k)) := by
  have h : (best w).1 = extractStridedSlice S16x2 (fun _ => 0) (fun j : S16x8.Idx => w (j.along 1 (source w j))) sliceFits_S16x8_S16x2 := rfl
  rw [h, slice_idx, source_eq]
  exact congrArg w (along_eq _ _ _)

theorem best_place (w : FVec Ideal S16x8 .f32) (n : Fin 16) (k : Fin 2) : (best w).2 (ix2 n k) = BitVec.ofNat 32 (nth (row w n) (two k)).val := by
  have h : (best w).2 = extractStridedSlice S16x2 (fun _ => 0) (fun j : S16x8.Idx => BitVec.ofNat 32 (j.along 1 (source w j) 1).val) sliceFits_S16x8_S16x2 := rfl
  rw [h, slice_idx, source_eq]
  exact congrArg (fun j : S16x8.Idx => BitVec.ofNat 32 (j 1).val) (along_eq _ _ _)

/-- The images' numbers. -/
def images : IVec S16x1 32 := broadcastInDim S16x1 ![0] bcast_S16_S16x1_0 (iotaInDim S16 32 0)

/-- The pairs the weights go to: an image and an expert. -/
def pairs (i : IVec S16x2 32) : IVec S16x2x2 32 :=
  concatenate S16x2x2 2 [⟨S16x2x1, (broadcastInDim S16x2x1 ![0, 1] bcast_S16x2_S16x2x1_0_1 (broadcastInDim S16x2 ![0, 1] bcast_S16x1_S16x2_0_1 (select (cmpi .slt images (broadcastInDim S16x1 ![] bcast_S_S16x1 (constantI S_ 32 0#32))) (addi images (broadcastInDim S16x1 ![] bcast_S_S16x1 (constantI S_ 32 16#32))) images)))⟩, ⟨S16x2x1, (broadcastInDim S16x2x1 ![0, 1] bcast_S16x2_S16x2x1_0_1 (select (cmpi .slt i (broadcastInDim S16x2 ![] bcast_S_S16x2 (constantI S_ 32 0#32))) (addi i (broadcastInDim S16x2 ![] bcast_S_S16x2 (constantI S_ 32 8#32))) i))⟩] concatenates_S16x2x1_S16x2x1_S16x2x2_d2

/-- The table of weights: an image's two greatest at their experts, zero elsewhere. -/
def table (w : FVec Ideal S16x8 .f32) : FVec Ideal S16x8 .f32 :=
  Host.scatter scatter_S16x8_S16x2x2_S16x2_n_01_01_2 (fun _ b => b) (broadcastInDim S16x8 ![] bcast_S_S16x8 (constant S_ .f32 0x00000000#32)) (pairs (best w).2) (best w).1

theorem images_apply (n : Fin 16) : images (ix2 n 0) = BitVec.ofNat 32 n.val := by
  pointwise [images]

theorem wrap16 : ∀ n : Fin 16, Scalar.select (IntOp.cmpi .slt (BitVec.ofNat 32 n.val) 0#32) (IntOp.addi (BitVec.ofNat 32 n.val) 16#32) (BitVec.ofNat 32 n.val)
    = BitVec.ofNat 32 n.val := by decide +kernel

theorem wrap8 : ∀ n : Fin 8, Scalar.select (IntOp.cmpi .slt (BitVec.ofNat 32 n.val) 0#32) (IntOp.addi (BitVec.ofNat 32 n.val) 8#32) (BitVec.ofNat 32 n.val)
    = BitVec.ofNat 32 n.val := by decide +kernel

theorem pairs_image (i : IVec S16x2 32) (n : Fin 16) (k : Fin 2) : pairs i (ix3 n k (0 : Fin 2)) = BitVec.ofNat 32 n.val := by
  pointwise [pairs, images_apply]
  exact wrap16 n

theorem pairs_expert (i : IVec S16x2 32) (n : Fin 16) (k : Fin 2) (e : Fin 8) (h : i (ix2 n k) = BitVec.ofNat 32 e.val) :
    pairs i (ix3 n k (1 : Fin 2)) = BitVec.ofNat 32 e.val := by
  pointwise [pairs]
  rw [h]
  exact wrap8 e

theorem places (a b : Fin 8) : a.val = (BitVec.ofNat 32 b.val).toNat ↔ a = b := by
  revert a b; decide +kernel

theorem two_eq : ∀ k : Fin 2, Fin.ofNat 8 k.val = two k := by decide

theorem table_apply (w : FVec Ideal S16x8 .f32) (n : Fin 16) (hw : ∀ e, 0 ≤ row w n e) (e : Fin 8) : table w (ix2 n e)
    = if e = arg (rest (row w n)) then top (rest (row w n)) else if e = arg (row w n) then top (row w n) else 0 := by
  have h := ScatterToDense.scatter_eq_GS (T := 16) (C := 8) (K := 2) scatter_S16x8_S16x2x2_S16x2_n_01_01_2 rfl rfl rfl (by norm_num) (by norm_num)
    (broadcastInDim S16x8 ![] bcast_S_S16x8 (constant (F := Ideal) S_ .f32 0x00000000#32)) (pairs (best w).2) (best w).1
    (fun i k => BitVec.ofNat 32 (nth (row w i) (Fin.ofNat 8 k)).val)
    (fun i k => row w i (nth (row w i) (Fin.ofNat 8 k)))
    (fun i k => pairs_image _ i k)
    (fun i k => by rw [two_eq]; exact pairs_expert _ i k _ (best_place w i k))
    (fun i k => by rw [two_eq]; exact best_value w i k) n e
  refine Eq.trans h ?_
  obtain ⟨h0, h1⟩ := nth_two (row w n) hw
  have h0 : nth (row w n) (Fin.ofNat 8 0) = arg (row w n) := h0
  have h1 : nth (row w n) (Fin.ofNat 8 1) = arg (rest (row w n)) := h1
  have hz : broadcastInDim S16x8 ![] bcast_S_S16x8 (constant (F := Ideal) S_ .f32 0x00000000#32) (ix2 n e) = (0 : EReal) := by pointwise []
  unfold ScatterToDense.GS
  simp only [LaneScatter.lastHit, places, h0, h1]
  rw [rest_arg hw, w_arg (row w n)]
  exact congrArg (fun z => ite _ _ (ite _ _ z)) hz

end Cert.ReferenceIdeal.Value

end
-- ==== Proof.Mix.lean ====
/- The reference's result at an image, a channel and a place: the image and all eight experts, each by its entry of the table. -/
module

public import proofs.«01_k».proof.Proof.Gate
public import proofs.«01_k».proof.Proof.Pick
public import proofs.«01_k».proof.Proof.Image

@[expose] public section

set_option maxRecDepth 16384

noncomputable section

namespace Cert.ReferenceIdeal.Value

open Idealize.ShloMosaic Idealize.ShloMosaic.TcCoe
open Cert.ReferenceIdeal Cert.ReferenceIdeal.Gen Cert.Moe

variable (V0 : Valuation τ sig (Elt Ideal))

/-- The arguments. -/
abbrev argX : FVec Ideal S16x192x28x28 .f32 := V0 (Proc.devRef .tc main_arg0)
abbrev argK : FVec Ideal S1 .f32 := V0 (Proc.devRef .tc main_arg1)
abbrev argW : FVec Ideal S192x8 .f32 := V0 (Proc.devRef .tc main_arg2)
abbrev argB : FVec Ideal S8 .f32 := V0 (Proc.devRef .tc main_arg3)
abbrev argE : FVec Ideal S8x192x192 .f32 := V0 (Proc.devRef .tc main_arg4)
abbrev argF : FVec Ideal S8x192 .f32 := V0 (Proc.devRef .tc main_arg5)

theorem res_table : res_main_v35 V0 = table (shares (logits (argX V0) (argW V0) (argB V0))) := rfl

/-- An expert's product with its bias. -/
def pre (e : Fin 8) (n : Fin 16) (q : Fin 192) (r s : Fin 28) : EReal :=
  ∑ i : Fin 192, argE V0 (ix3 e q i) * argX V0 (ix4 n i r s) + argF V0 (ix2 e q)

/-- An expert's share of the result. -/
def share (e : Fin 8) (n : Fin 16) (q : Fin 192) (r s : Fin 28) : EReal :=
  gelu (pre V0 e n q r s) * argK V0 (ix1 0) * table (shares (logits (argX V0) (argW V0) (argB V0))) (ix2 n e)

theorem pre0 (n : Fin 16) (q : Fin 192) (r s : Fin 28) : res_main_v44 V0 (ix4 n q r s) = pre V0 0 n q r s := by
  pointwise [res_main_v44]
  rfl

theorem pre1 (n : Fin 16) (q : Fin 192) (r s : Fin 28) : res_main_v75 V0 (ix4 n q r s) = pre V0 1 n q r s := by
  pointwise [res_main_v75]
  rfl

theorem pre2 (n : Fin 16) (q : Fin 192) (r s : Fin 28) : res_main_v106 V0 (ix4 n q r s) = pre V0 2 n q r s := by
  pointwise [res_main_v106]
  rfl

theorem pre3 (n : Fin 16) (q : Fin 192) (r s : Fin 28) : res_main_v137 V0 (ix4 n q r s) = pre V0 3 n q r s := by
  pointwise [res_main_v137]
  rfl

theorem pre4 (n : Fin 16) (q : Fin 192) (r s : Fin 28) : res_main_v168 V0 (ix4 n q r s) = pre V0 4 n q r s := by
  pointwise [res_main_v168]
  rfl

theorem pre5 (n : Fin 16) (q : Fin 192) (r s : Fin 28) : res_main_v199 V0 (ix4 n q r s) = pre V0 5 n q r s := by
  pointwise [res_main_v199]
  rfl

theorem pre6 (n : Fin 16) (q : Fin 192) (r s : Fin 28) : res_main_v230 V0 (ix4 n q r s) = pre V0 6 n q r s := by
  pointwise [res_main_v230]
  rfl

theorem pre7 (n : Fin 16) (q : Fin 192) (r s : Fin 28) : res_main_v261 V0 (ix4 n q r s) = pre V0 7 n q r s := by
  pointwise [res_main_v261]
  rfl

theorem gelu_eq (y : EReal) : y * (Ideal.ofBits .f32 0x3F000000#32 * (1 + Ideal.tanh (Ideal.ofBits .f32 0x3F4C422A#32 * (y + Ideal.ofBits .f32 0x3D372713#32 * (y * y * y))))) = gelu y := by
  rw [mul_comm (y * y) y]
  rfl

theorem res_five (n : Fin 16) (q : Fin 192) (r s : Fin 28) : res_main_v190 V0 (ix4 n q r s)
    = argX V0 (ix4 n q r s) + share V0 0 n q r s + share V0 1 n q r s + share V0 2 n q r s + share V0 3 n q r s + share V0 4 n q r s := by
  pointwise [res_main_v190, pre0, pre1, pre2, pre3, pre4, res_table, gelu_eq]
  rfl

/-- The reference's result, at a place. -/
theorem res_all (n : Fin 16) (q : Fin 192) (r s : Fin 28) : (val6 V0 (Proc.devRef .tc main_v283) : FVec Ideal S16x192x28x28 .f32) (ix4 n q r s)
    = argX V0 (ix4 n q r s) + share V0 0 n q r s + share V0 1 n q r s + share V0 2 n q r s + share V0 3 n q r s + share V0 4 n q r s
      + share V0 5 n q r s + share V0 6 n q r s + share V0 7 n q r s := by
  rw [val6_main_v283]
  pointwise [res_five, pre5, pre6, pre7, res_table, gelu_eq]
  rfl

/-- Eight terms of which all but two vanish. -/
theorem two_of_eight (a : Fin 8 → EReal) (f s : Fin 8) (hfs : s ≠ f) (x y z : EReal) :
    z + a 0 * (if 0 = s then y else if 0 = f then x else 0) + a 1 * (if 1 = s then y else if 1 = f then x else 0)
      + a 2 * (if 2 = s then y else if 2 = f then x else 0) + a 3 * (if 3 = s then y else if 3 = f then x else 0)
      + a 4 * (if 4 = s then y else if 4 = f then x else 0) + a 5 * (if 5 = s then y else if 5 = f then x else 0)
      + a 6 * (if 6 = s then y else if 6 = f then x else 0) + a 7 * (if 7 = s then y else if 7 = f then x else 0)
      = z + a f * x + a s * y := by
  have h : ∀ e, a e * (if e = s then y else if e = f then x else 0) = (if e = f then a f * x else 0) + (if e = s then a s * y else 0) := by
    intro e
    by_cases hs : e = s
    · subst hs; rw [if_pos rfl, if_pos rfl, if_neg hfs, zero_add]
    · by_cases hf : e = f
      · subst hf; rw [if_neg hs, if_neg hs, if_pos rfl, if_pos rfl, add_zero]
      · rw [if_neg hs, if_neg hs, if_neg hf, if_neg hf, add_zero, mul_zero]
  have hs : ∑ e, a e * (if e = s then y else if e = f then x else 0) = a f * x + a s * y := by
    rw [Finset.sum_congr rfl fun e _ => h e, Finset.sum_add_distrib, Finset.sum_ite_eq' , Finset.sum_ite_eq']
    simp
  rw [Fin.sum_univ_eight] at hs
  simp only [add_assoc] at hs ⊢
  rw [hs]

/-- With finite greatest logits the reference's result is the image and its two choices. -/
theorem res_two (hfin : Finite (argX V0) (argW V0) (argB V0)) (n : Fin 16) (q : Fin 192) (r s : Fin 28) :
    (val6 V0 (Proc.devRef .tc main_v283) : FVec Ideal S16x192x28x28 .f32) (ix4 n q r s)
    = argX V0 (ix4 n q r s)
      + gelu (pre V0 (arg (Cert.KernelIdeal.Value.soft fun e => logits (argX V0) (argW V0) (argB V0) (ix2 n e))) n q r s)
        * (top (Cert.KernelIdeal.Value.soft fun e => logits (argX V0) (argW V0) (argB V0) (ix2 n e)) * argK V0 (ix1 0))
      + gelu (pre V0 (arg (rest (Cert.KernelIdeal.Value.soft fun e => logits (argX V0) (argW V0) (argB V0) (ix2 n e)))) n q r s)
        * (top (rest (Cert.KernelIdeal.Value.soft fun e => logits (argX V0) (argW V0) (argB V0) (ix2 n e))) * argK V0 (ix1 0)) := by
  have hrow : row (shares (logits (argX V0) (argW V0) (argB V0))) n = Cert.KernelIdeal.Value.soft fun e => logits (argX V0) (argW V0) (argB V0) (ix2 n e) :=
    funext fun e => shares_apply _ n e
  have hw : ∀ e, 0 ≤ row (shares (logits (argX V0) (argW V0) (argB V0))) n e := fun e => by
    rw [hrow]
    exact soft_nonneg _ (hfin n).1 (hfin n).2 e
  rw [res_all]
  unfold share
  simp only [table_apply _ n hw, hrow]
  generalize hS : (Cert.KernelIdeal.Value.soft fun e => logits (argX V0) (argW V0) (argB V0) (ix2 n e)) = S
  rw [two_of_eight (fun e => gelu (pre V0 e n q r s) * argK V0 (ix1 0)) (arg S) (arg (rest S)) (arg_rest_ne (by rw [← hS, ← hrow]; exact hw))]
  rw [mul_assoc, mul_assoc, mul_comm (argK V0 (ix1 0)), mul_comm (argK V0 (ix1 0))]

end Cert.ReferenceIdeal.Value

end
-- ==== Proof.Equal.lean ====
/- The kernel's result array and the reference's result are the same function of the arguments. -/
module

public import proofs.«01_k».proof.Proof.Array
public import proofs.«01_k».proof.Proof.Mix

@[expose] public section

set_option maxRecDepth 16384

noncomputable section

namespace Cert.KernelIdeal.Value

open Idealize.ShloMosaic Idealize.ShloMosaic.TcCoe
open Cert.KernelIdeal Cert.KernelIdeal.Gen Cert.Moe

variable (m : (ℓ : Loc nD τ sig) → Buf (Elt Ideal) ℓ) (c : Dev nD)

/-- The arguments. -/
abbrev argX : FVec Ideal S16x192x28x28 .f32 := m ((c.tc : Thread nD τ).loc main_arg0)
abbrev argK : FVec Ideal S1 .f32 := m ((c.tc : Thread nD τ).loc main_arg1)
abbrev argW : FVec Ideal S192x8 .f32 := m ((c.tc : Thread nD τ).loc main_arg2)
abbrev argB : FVec Ideal S8 .f32 := m ((c.tc : Thread nD τ).loc main_arg3)
abbrev argE : FVec Ideal S8x192x192 .f32 := m ((c.tc : Thread nD τ).loc main_arg4)
abbrev argF : FVec Ideal S8x192 .f32 := m ((c.tc : Thread nD τ).loc main_arg5)

/-- The arrays the windows stage, of the arguments. -/
theorem whole_eq : whole m c = fun j => total (shapeCast S16x192x784 (argX m c) shapeCasts_S16x192x28x28_S16x192x784)
    (transpose S8x192 [1, 0] (argW m c) transposes_S192x8_S8x192_1_0) (shapeCast S8x1 (argB m c) shapeCasts_S8_S8x1) (argE m c)
    (shapeCast S8x1x192 (argF m c) shapeCasts_S8x192_S8x1x192) (argK m c) (j 0) (j 1) (j 2) := by
  unfold whole
  entry_read
  rfl

/-- After the pipeline the result is its array, reshaped. -/
theorem tail_eq : Pipeline.afterTail₀ cfgs (dats m) 0 (V0 m) [hostOps1] c main_v5
    = shapeCast S16x192x28x28 (whole m c) shapeCasts_S16x192x784_S16x192x28x28 := by
  unfold Pipeline.afterTail₀
  simp only [List.flatten_cons, List.flatten_nil, List.append_nil, hostOps1, StableHlo.after_cons, StableHlo.after_nil]
  rw [StableHlo.reshape_result']
  refine congrArg (fun x : FVec Ideal S16x192x784 .f32 => shapeCast S16x192x28x28 x shapeCasts_S16x192x784_S16x192x28x28) ?_
  exact (Pipeline.withArrays_arr spec0 (by decide) c (V0 m c) _ 6).trans (final m c)

theorem flat_apply (X : FVec Ideal S16x192x28x28 .f32) (n : Fin 16) (q : Fin 192) (p : Fin 784) :
    (shapeCast S16x192x784 X shapeCasts_S16x192x28x28_S16x192x784 : FVec Ideal S16x192x784 .f32) (ix3 n q p)
      = X (ix4 n q ⟨p.val / 28, by omega⟩ ⟨p.val % 28, by omega⟩) := by
  pointwise []

theorem bias_apply (X : FVec Ideal S8x192 .f32) (e : Fin 8) (q : Fin 192) :
    (shapeCast S8x1x192 X shapeCasts_S8x192_S8x1x192 : FVec Ideal S8x1x192 .f32) (ix3 e 0 q) = X (ix2 e q) := by
  pointwise []

/-- The kernel's weights of an image, by the reference's logits. -/
theorem wts_eq (X : FVec Ideal S16x192x28x28 .f32) (W : FVec Ideal S192x8 .f32) (b : FVec Ideal S8 .f32) (n : Fin 16) :
    wts (imgOf (shapeCast S16x192x784 X shapeCasts_S16x192x28x28_S16x192x784) n) (transpose S8x192 [1, 0] W transposes_S192x8_S8x192_1_0)
      (shapeCast S8x1 b shapeCasts_S8_S8x1) = soft fun e => Cert.ReferenceIdeal.Value.logits X W b (ix2 n e) :=
  congrArg soft (Cert.ReferenceIdeal.Value.col_eq X W b n _ _ _)

variable (V0 : Valuation Cert.ReferenceIdeal.τ Cert.ReferenceIdeal.sig (Elt Ideal))

/-- The reference's result over the same arguments, its greatest logits finite, is the kernel's. -/
theorem same (h0 : Cert.ReferenceIdeal.Value.argX V0 = argX m c) (h1 : Cert.ReferenceIdeal.Value.argK V0 = argK m c)
    (h2 : Cert.ReferenceIdeal.Value.argW V0 = argW m c) (h3 : Cert.ReferenceIdeal.Value.argB V0 = argB m c)
    (h4 : Cert.ReferenceIdeal.Value.argE V0 = argE m c) (h5 : Cert.ReferenceIdeal.Value.argF V0 = argF m c)
    (hfin : Cert.ReferenceIdeal.Value.Finite (argX m c) (argW m c) (argB m c)) :
    (Cert.ReferenceIdeal.Value.val6 V0 (Proc.devRef .tc Cert.ReferenceIdeal.main_v283) : FVec Ideal S16x192x28x28 .f32)
      = shapeCast S16x192x28x28 (whole m c) shapeCasts_S16x192x784_S16x192x28x28 := by
  funext j
  obtain ⟨n, q, r, s, rfl⟩ : ∃ (n : Fin 16) (q : Fin 192) (r s : Fin 28), j = ix4 n q r s :=
    ⟨j 0, j 1, j 2, j 3, by funext a; fin_cases a <;> rfl⟩
  refine (Cert.ReferenceIdeal.Value.res_two V0 (by rw [h0, h2, h3]; exact hfin) n q r s).trans ?_
  unfold Cert.ReferenceIdeal.Value.pre
  rw [h0, h1, h2, h3, h4, h5, whole_eq]
  pointwise []
  unfold total fst snd
  rw [wts_eq]
  simp only [flat_apply, bias_apply]
  have hr : ∀ h, (⟨(r.val * 28 + s.val) / 28, h⟩ : Fin 28) = r := fun h => Fin.ext (by show (r.val * 28 + s.val) / 28 = r.val; omega)
  have hs : ∀ h, (⟨(r.val * 28 + s.val) % 28, h⟩ : Fin 28) = s := fun h => Fin.ext (by show (r.val * 28 + s.val) % 28 = s.val; omega)
  simp only [hr, hs]

end Cert.KernelIdeal.Value

end
-- ==== Proof.lean ====
/- The claims: both programs run to the end with their arguments unchanged, and over the extended reals, the greatest
   logits finite, the kernel's result is the reference's. -/
module

public import proofs.«01_k».proof.Defs
public import proofs.«01_k».proof.Proof.Gen.KernelIdeal
public import proofs.«01_k».proof.Proof.Gen.ReferenceIdeal
public import proofs.«01_k».proof.Proof.RefFrame
public import proofs.«01_k».proof.Proof.Equal
public import Idealize.ShloMosaic.Lib.Claim

@[expose] public section

set_option maxRecDepth 16384

noncomputable section

namespace Cert.Proof

open Idealize.ShloMosaic Idealize.ShloMosaic.TcCoe Idealize.SL.Sem

/-- The condition on the arguments, by the kernel's memory. -/
theorem finite_of (m : (ℓ : Loc KernelIdeal.nD KernelIdeal.τ KernelIdeal.sig) → Buf (Elt Ideal) ℓ)
    (h : Pre_KernelIdeal_gate_finite (hPre_gate_finite := Pre_gate_finite.Value.facts) m) (c : Dev KernelIdeal.nD) :
    ReferenceIdeal.Value.Finite (KernelIdeal.Value.argX m c) (KernelIdeal.Value.argW m c) (KernelIdeal.Value.argB m c) :=
  Pre_gate_finite.Value.finite _ _ _ _ _ _ (h c)

/-- The kernel computes what the reference does. -/
theorem same_result : algebraic_KernelIdeal_ReferenceIdeal_pre_gate_finite (hKernelIdeal := KernelIdeal.Gen.facts)
    (hReferenceIdeal := ReferenceIdeal.Gen.facts) (hPre_gate_finite := Pre_gate_finite.Value.facts) := by
  intro m g m' g' hpre hagree
  refine ⟨fun c => shapeCast KernelIdeal.S16x192x28x28 (KernelIdeal.Value.whole m c) KernelIdeal.Gen.shapeCasts_S16x192x784_S16x192x28x28, ?_, ?_⟩
  · run_from Cert.KernelIdeal.Value.run_main m g
    · exact KernelIdeal.Value.tail_eq m c
    · exact KernelIdeal.Gen.W_main_arg0 m _ c
    · exact KernelIdeal.Gen.W_main_arg2 m _ c
    · exact KernelIdeal.Gen.W_main_arg3 m _ c
    · exact KernelIdeal.Gen.W_main_arg5 m _ c
  · refine (θ_run _ _ _).mono (fun r h c => ⟨((h c).1.trans (ReferenceIdeal.Value.val6_main_v283 _).symm).trans ?_, (h c).2⟩) (ReferenceIdeal.Value.run m' g')
    obtain ⟨h0, h1, h2, h3, h4, h5⟩ := hagree c
    exact KernelIdeal.Value.same m c _ h0 h1 h2 h3 h4 h5 (finite_of m hpre c)

theorem claim : Cert.Claim :=
  ⟨KernelIdeal.Gen.facts, ReferenceIdeal.Gen.facts, Pre_gate_finite.Value.facts,
    fun m ρ _ => Cert.KernelIdeal.Value.frame m ρ, fun m ρ _ => Cert.KernelIdeal.Value.frame m ρ,
    fun m ρ _ => Cert.ReferenceIdeal.Value.frame m ρ, fun m ρ _ => Cert.ReferenceIdeal.Value.frame m ρ, same_result⟩

end Cert.Proof

end
